-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S65536x128 : Shape := ⟨2, ![65536, 128]⟩
abbrev S60x4096 : Shape := ⟨2, ![60, 4096]⟩
abbrev S16384 : Shape := ⟨1, ![16384]⟩
abbrev S1x16384 : Shape := ⟨2, ![1, 16384]⟩
abbrev S60x60x16384 : Shape := ⟨3, ![60, 60, 16384]⟩
abbrev S4096x128 : Shape := ⟨2, ![4096, 128]⟩
abbrev S60x256 : Shape := ⟨2, ![60, 256]⟩
abbrev S1x256 : Shape := ⟨2, ![1, 256]⟩
abbrev S60x60x256 : Shape := ⟨3, ![60, 60, 256]⟩
abbrev S8328x128 : Shape := ⟨2, ![8328, 128]⟩
abbrev S16x128 : Shape := ⟨2, ![16, 128]⟩
abbrev S64x128 : Shape := ⟨2, ![64, 128]⟩
abbrev S64x256 : Shape := ⟨2, ![64, 256]⟩
abbrev S128x256 : Shape := ⟨2, ![128, 256]⟩
abbrev S128x128 : Shape := ⟨2, ![128, 128]⟩
abbrev S60x128 : Shape := ⟨2, ![60, 128]⟩
abbrev S1x60x128 : Shape := ⟨3, ![1, 60, 128]⟩
abbrev S1x128 : Shape := ⟨2, ![1, 128]⟩
abbrev S1x60x256 : Shape := ⟨3, ![1, 60, 256]⟩
abbrev S16384x60x60 : Shape := ⟨3, ![16384, 60, 60]⟩

abbrev nBuf : Space → Nat
  | .hbm => 17
  | .vmem => 48
  | .smem => 0
  | _ => 0

abbrev bufTy : (tb : Table) → Fin (tcTables nBuf tb) → BufTy
  | .hbm, ⟨0, _⟩ => ⟨S65536x128, .i32⟩
  | .hbm, ⟨1, _⟩ => ⟨S60x4096, .f32⟩
  | .hbm, ⟨2, _⟩ => ⟨S65536x128, .i32⟩
  | .hbm, ⟨3, _⟩ => ⟨S60x4096, .f32⟩
  | .hbm, ⟨4, _⟩ => ⟨S65536x128, .i32⟩
  | .hbm, ⟨5, _⟩ => ⟨S60x4096, .f32⟩
  | .hbm, ⟨6, _⟩ => ⟨S65536x128, .i32⟩
  | .hbm, ⟨7, _⟩ => ⟨S60x4096, .f32⟩
  | .hbm, ⟨8, _⟩ => ⟨S16384, .i32⟩
  | .hbm, ⟨9, _⟩ => ⟨S16384, .i32⟩
  | .hbm, ⟨10, _⟩ => ⟨S1x16384, .i32⟩
  | .hbm, ⟨11, _⟩ => ⟨S1x16384, .i32⟩
  | .hbm, ⟨12, _⟩ => ⟨S60x60x16384, .f32⟩
  | .hbm, ⟨13, _⟩ => ⟨S60x60x16384, .f32⟩
  | .hbm, ⟨14, _⟩ => ⟨S60x60x16384, .f32⟩
  | .hbm, ⟨15, _⟩ => ⟨S60x60x16384, .f32⟩
  | .hbm, ⟨16, _⟩ => ⟨S16384x60x60, .f32⟩
  | .local _ .vmem, ⟨0, _⟩ => ⟨S4096x128, .i32⟩
  | .local _ .vmem, ⟨1, _⟩ => ⟨S4096x128, .i32⟩
  | .local _ .vmem, ⟨2, _⟩ => ⟨S60x256, .f32⟩
  | .local _ .vmem, ⟨3, _⟩ => ⟨S60x256, .f32⟩
  | .local _ .vmem, ⟨4, _⟩ => ⟨S1x256, .i32⟩
  | .local _ .vmem, ⟨5, _⟩ => ⟨S1x256, .i32⟩
  | .local _ .vmem, ⟨6, _⟩ => ⟨S1x256, .i32⟩
  | .local _ .vmem, ⟨7, _⟩ => ⟨S1x256, .i32⟩
  | .local _ .vmem, ⟨8, _⟩ => ⟨S60x60x256, .f32⟩
  | .local _ .vmem, ⟨9, _⟩ => ⟨S60x60x256, .f32⟩
  | .local _ .vmem, ⟨10, _⟩ => ⟨S8328x128, .f32⟩
  | .local _ .vmem, ⟨11, _⟩ => ⟨S60x256, .f32⟩
  | .local _ .vmem, ⟨12, _⟩ => ⟨S4096x128, .i32⟩
  | .local _ .vmem, ⟨13, _⟩ => ⟨S4096x128, .i32⟩
  | .local _ .vmem, ⟨14, _⟩ => ⟨S60x256, .f32⟩
  | .local _ .vmem, ⟨15, _⟩ => ⟨S60x256, .f32⟩
  | .local _ .vmem, ⟨16, _⟩ => ⟨S1x256, .i32⟩
  | .local _ .vmem, ⟨17, _⟩ => ⟨S1x256, .i32⟩
  | .local _ .vmem, ⟨18, _⟩ => ⟨S1x256, .i32⟩
  | .local _ .vmem, ⟨19, _⟩ => ⟨S1x256, .i32⟩
  | .local _ .vmem, ⟨20, _⟩ => ⟨S60x60x256, .f32⟩
  | .local _ .vmem, ⟨21, _⟩ => ⟨S60x60x256, .f32⟩
  | .local _ .vmem, ⟨22, _⟩ => ⟨S8328x128, .f32⟩
  | .local _ .vmem, ⟨23, _⟩ => ⟨S60x256, .f32⟩
  | .local _ .vmem, ⟨24, _⟩ => ⟨S4096x128, .i32⟩
  | .local _ .vmem, ⟨25, _⟩ => ⟨S4096x128, .i32⟩
  | .local _ .vmem, ⟨26, _⟩ => ⟨S60x256, .f32⟩
  | .local _ .vmem, ⟨27, _⟩ => ⟨S60x256, .f32⟩
  | .local _ .vmem, ⟨28, _⟩ => ⟨S1x256, .i32⟩
  | .local _ .vmem, ⟨29, _⟩ => ⟨S1x256, .i32⟩
  | .local _ .vmem, ⟨30, _⟩ => ⟨S1x256, .i32⟩
  | .local _ .vmem, ⟨31, _⟩ => ⟨S1x256, .i32⟩
  | .local _ .vmem, ⟨32, _⟩ => ⟨S60x60x256, .f32⟩
  | .local _ .vmem, ⟨33, _⟩ => ⟨S60x60x256, .f32⟩
  | .local _ .vmem, ⟨34, _⟩ => ⟨S8328x128, .f32⟩
  | .local _ .vmem, ⟨35, _⟩ => ⟨S60x256, .f32⟩
  | .local _ .vmem, ⟨36, _⟩ => ⟨S4096x128, .i32⟩
  | .local _ .vmem, ⟨37, _⟩ => ⟨S4096x128, .i32⟩
  | .local _ .vmem, ⟨38, _⟩ => ⟨S60x256, .f32⟩
  | .local _ .vmem, ⟨39, _⟩ => ⟨S60x256, .f32⟩
  | .local _ .vmem, ⟨40, _⟩ => ⟨S1x256, .i32⟩
  | .local _ .vmem, ⟨41, _⟩ => ⟨S1x256, .i32⟩
  | .local _ .vmem, ⟨42, _⟩ => ⟨S1x256, .i32⟩
  | .local _ .vmem, ⟨43, _⟩ => ⟨S1x256, .i32⟩
  | .local _ .vmem, ⟨44, _⟩ => ⟨S60x60x256, .f32⟩
  | .local _ .vmem, ⟨45, _⟩ => ⟨S60x60x256, .f32⟩
  | .local _ .vmem, ⟨46, _⟩ => ⟨S8328x128, .f32⟩
  | .local _ .vmem, ⟨47, _⟩ => ⟨S60x256, .f32⟩
  | _, _ => ⟨S65536x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_scratch0 : Ref sig .tc := ⟨.vmem, 22, rfl⟩
abbrev cc1_scratch1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg3_1 : Ref sig .tc := ⟨.vmem, 31, rfl⟩
abbrev cc2_stg4_0 : Ref sig .tc := ⟨.vmem, 32, rfl⟩
abbrev cc2_stg4_1 : Ref sig .tc := ⟨.vmem, 33, rfl⟩
abbrev cc2_scratch0 : Ref sig .tc := ⟨.vmem, 34, rfl⟩
abbrev cc2_scratch1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg1_1 : Ref sig .tc := ⟨.vmem, 39, rfl⟩
abbrev cc3_stg2_0 : Ref sig .tc := ⟨.vmem, 40, rfl⟩
abbrev cc3_stg2_1 : Ref sig .tc := ⟨.vmem, 41, rfl⟩
abbrev cc3_stg3_0 : Ref sig .tc := ⟨.vmem, 42, rfl⟩
abbrev cc3_stg3_1 : Ref sig .tc := ⟨.vmem, 43, rfl⟩
abbrev cc3_stg4_0 : Ref sig .tc := ⟨.vmem, 44, rfl⟩
abbrev cc3_stg4_1 : Ref sig .tc := ⟨.vmem, 45, rfl⟩
abbrev cc3_scratch0 : Ref sig .tc := ⟨.vmem, 46, rfl⟩
abbrev cc3_scratch1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27
abbrev cc2_sem4_0 : DmaSem sig := 28
abbrev cc2_sem4_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc3_sem3_0 : DmaSem sig := 36
abbrev cc3_sem3_1 : DmaSem sig := 37
abbrev cc3_sem4_0 : DmaSem sig := 38
abbrev cc3_sem4_1 : DmaSem sig := 39

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c128_i32 : BitVec 32 := 128#32
  let v0 : BitVec 32 := Scalar.addi c0_i32 c128_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c16_i32 : BitVec 32 := 16#32
  let v1095 : BitVec 32 := Scalar.muli arg8 c16_i32
  v1095
def k0_off1 (k0_t1 : Fin k0_t1_loop.trips) : Fin 2 → Nat :=
  let c0_i32 : BitVec 32 := 0#32
  let c1_i32 : BitVec 32 := 1#32
  let arg8 : BitVec 32 := Scf.iv c0_i32 c1_i32 k0_t1
  let c16_i32 : BitVec 32 := 16#32
  let v1095 : BitVec 32 := Scalar.muli arg8 c16_i32
  let v1096 : BitVec 32 := v1095
  let v1097 : Index := Scalar.indexCast v1096
  let c0_673 : Index := 0#32
  ![v1097.toNat, 0]
def k0_mult2 (k0_t1 : Fin k0_t1_loop.trips) : BitVec 32 :=
  let c0_i32 : BitVec 32 := 0#32
  let c1_i32 : BitVec 32 := 1#32
  let arg8 : BitVec 32 := Scf.iv c0_i32 c1_i32 k0_t1
  let c128_i32_674 : BitVec 32 := 128#32
  let v1101 : BitVec 32 := Scalar.addi arg8 c128_i32_674
  let c16_i32_675 : BitVec 32 := 16#32
  let v1102 : BitVec 32 := Scalar.muli v1101 c16_i32_675
  v1102
def k0_off2 (k0_t1 : Fin k0_t1_loop.trips) : Fin 2 → Nat :=
  let c0_i32 : BitVec 32 := 0#32
  let c1_i32 : BitVec 32 := 1#32
  let arg8 : BitVec 32 := Scf.iv c0_i32 c1_i32 k0_t1
  let c128_i32_674 : BitVec 32 := 128#32
  let v1101 : BitVec 32 := Scalar.addi arg8 c128_i32_674
  let c16_i32_675 : BitVec 32 := 16#32
  let v1102 : BitVec 32 := Scalar.muli v1101 c16_i32_675
  let v1103 : BitVec 32 := v1102
  let v1104 : Index := Scalar.indexCast v1103
  let c0_676 : Index := 0#32
  ![v1104.toNat, 0]
def k0_off3 (k0_t1 : Fin k0_t1_loop.trips) : Fin 2 → Nat :=
  let c0_i32 : BitVec 32 := 0#32
  let c1_i32 : BitVec 32 := 1#32
  let arg8 : BitVec 32 := Scf.iv c0_i32 c1_i32 k0_t1
  let c65_i32 : BitVec 32 := 65#32
  let v1114 : BitVec 32 := Scalar.muli arg8 c65_i32
  let v1115 : Index := Scalar.indexCast v1114
  let c0_678 : Index := 0#32
  ![v1115.toNat, 0]
@[reducible] def k0_t2_loop : Scf.Loop 32 :=
  let c0_i32_670 : BitVec 32 := 0#32
  let c60_i32 : BitVec 32 := 60#32
  let v1094 : BitVec 32 := Scalar.addi c0_i32_670 c60_i32
  let c1_i32_671 : BitVec 32 := 1#32
  ⟨c0_i32_670, v1094, c1_i32_671⟩
def k0_off4 (k0_t2 : Fin k0_t2_loop.trips) : Fin 2 → Nat :=
  let c0_i32_670 : BitVec 32 := 0#32
  let c1_i32_671 : BitVec 32 := 1#32
  let arg8 : BitVec 32 := Scf.iv c0_i32_670 c1_i32_671 k0_t2
  let v1102 : Index := Scalar.indexCast arg8
  let c0_674 : Index := 0#32
  ![v1102.toNat, 0]
def k0_off5 (k0_t2 : Fin k0_t2_loop.trips) : Fin 3 → Nat :=
  let c0_i32_670 : BitVec 32 := 0#32
  let c1_i32_671 : BitVec 32 := 1#32
  let arg8 : BitVec 32 := Scf.iv c0_i32_670 c1_i32_671 k0_t2
  let v1114 : Index := Scalar.indexCast arg8
  let c0_680 : Index := 0#32
  let c0_681 : Index := 0#32
  ![v1114.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

abbrev stage0_0 : Fin 2 → Memref sig .tc .vmem S4096x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S60x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S60x60x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![16], ![false]⟩

@[reducible] def k1_t1_loop : Scf.Loop 32 :=
  let c0_i32 : BitVec 32 := 0#32
  let c128_i32 : BitVec 32 := 128#32
  let v0 : BitVec 32 := Scalar.addi c0_i32 c128_i32
  let c1_i32 : BitVec 32 := 1#32
  ⟨c0_i32, v0, c1_i32⟩
def k1_mult1 (k1_t1 : Fin k1_t1_loop.trips) : BitVec 32 :=
  let c0_i32 : BitVec 32 := 0#32
  let c1_i32 : BitVec 32 := 1#32
  let arg9 : BitVec 32 := Scf.iv c0_i32 c1_i32 k1_t1
  let c16_i32 : BitVec 32 := 16#32
  let v1095 : BitVec 32 := Scalar.muli arg9 c16_i32
  v1095
def k1_off1 (k1_t1 : Fin k1_t1_loop.trips) : Fin 2 → Nat :=
  let c0_i32 : BitVec 32 := 0#32
  let c1_i32 : BitVec 32 := 1#32
  let arg9 : BitVec 32 := Scf.iv c0_i32 c1_i32 k1_t1
  let c16_i32 : BitVec 32 := 16#32
  let v1095 : BitVec 32 := Scalar.muli arg9 c16_i32
  let v1096 : BitVec 32 := v1095
  let v1097 : Index := Scalar.indexCast v1096
  let c0_673 : Index := 0#32
  ![v1097.toNat, 0]
def k1_mult2 (k1_t1 : Fin k1_t1_loop.trips) : BitVec 32 :=
  let c0_i32 : BitVec 32 := 0#32
  let c1_i32 : BitVec 32 := 1#32
  let arg9 : BitVec 32 := Scf.iv c0_i32 c1_i32 k1_t1
  let c128_i32_674 : BitVec 32 := 128#32
  let v1101 : BitVec 32 := Scalar.addi arg9 c128_i32_674
  let c16_i32_675 : BitVec 32 := 16#32
  let v1102 : BitVec 32 := Scalar.muli v1101 c16_i32_675
  v1102
def k1_off2 (k1_t1 : Fin k1_t1_loop.trips) : Fin 2 → Nat :=
  let c0_i32 : BitVec 32 := 0#32
  let c1_i32 : BitVec 32 := 1#32
  let arg9 : BitVec 32 := Scf.iv c0_i32 c1_i32 k1_t1
  let c128_i32_674 : BitVec 32 := 128#32
  let v1101 : BitVec 32 := Scalar.addi arg9 c128_i32_674
  let c16_i32_675 : BitVec 32 := 16#32
  let v1102 : BitVec 32 := Scalar.muli v1101 c16_i32_675
  let v1103 : BitVec 32 := v1102
  let v1104 : Index := Scalar.indexCast v1103
  let c0_676 : Index := 0#32
  ![v1104.toNat, 0]
def k1_off3 (k1_t1 : Fin k1_t1_loop.trips) : Fin 2 → Nat :=
  let c0_i32 : BitVec 32 := 0#32
  let c1_i32 : BitVec 32 := 1#32
  let arg9 : BitVec 32 := Scf.iv c0_i32 c1_i32 k1_t1
  let c65_i32 : BitVec 32 := 65#32
  let v1114 : BitVec 32 := Scalar.muli arg9 c65_i32
  let v1115 : Index := Scalar.indexCast v1114
  let c0_678 : Index := 0#32
  ![v1115.toNat, 0]
@[reducible] def k1_t2_loop : Scf.Loop 32 :=
  let c0_i32_670 : BitVec 32 := 0#32
  let c60_i32 : BitVec 32 := 60#32
  let v1094 : BitVec 32 := Scalar.addi c0_i32_670 c60_i32
  let c1_i32_671 : BitVec 32 := 1#32
  ⟨c0_i32_670, v1094, c1_i32_671⟩
def k1_off4 (k1_t2 : Fin k1_t2_loop.trips) : Fin 2 → Nat :=
  let c0_i32_670 : BitVec 32 := 0#32
  let c1_i32_671 : BitVec 32 := 1#32
  let arg9 : BitVec 32 := Scf.iv c0_i32_670 c1_i32_671 k1_t2
  let v1102 : Index := Scalar.indexCast arg9
  let c0_674 : Index := 0#32
  ![v1102.toNat, 0]
def k1_off5 (k1_t2 : Fin k1_t2_loop.trips) : Fin 3 → Nat :=
  let c0_i32_670 : BitVec 32 := 0#32
  let c1_i32_671 : BitVec 32 := 1#32
  let arg9 : BitVec 32 := Scf.iv c0_i32_670 c1_i32_671 k1_t2
  let v1114 : Index := Scalar.indexCast arg9
  let c0_680 : Index := 0#32
  let c0_681 : Index := 0#32
  ![v1114.toNat, 0, 0]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc1_transform_3 (i : grid1.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc1_transform_5 (i : grid1.Coords) : Fin 3 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  let c0_i32_1 : BitVec 32 := 0#32
  ![c0_i32.toNat, c0_i32_0.toNat, v0.toNat]

abbrev stage1_0 : Fin 2 → Memref sig .tc .vmem S4096x128 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S60x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x256 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x256 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S60x60x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![16], ![false]⟩

@[reducible] def k2_t1_loop : Scf.Loop 32 :=
  let c0_i32 : BitVec 32 := 0#32
  let c128_i32 : BitVec 32 := 128#32
  let v0 : BitVec 32 := Scalar.addi c0_i32 c128_i32
  let c1_i32 : BitVec 32 := 1#32
  ⟨c0_i32, v0, c1_i32⟩
def k2_mult1 (k2_t1 : Fin k2_t1_loop.trips) : BitVec 32 :=
  let c0_i32 : BitVec 32 := 0#32
  let c1_i32 : BitVec 32 := 1#32
  let arg9 : BitVec 32 := Scf.iv c0_i32 c1_i32 k2_t1
  let c16_i32 : BitVec 32 := 16#32
  let v1095 : BitVec 32 := Scalar.muli arg9 c16_i32
  v1095
def k2_off1 (k2_t1 : Fin k2_t1_loop.trips) : Fin 2 → Nat :=
  let c0_i32 : BitVec 32 := 0#32
  let c1_i32 : BitVec 32 := 1#32
  let arg9 : BitVec 32 := Scf.iv c0_i32 c1_i32 k2_t1
  let c16_i32 : BitVec 32 := 16#32
  let v1095 : BitVec 32 := Scalar.muli arg9 c16_i32
  let v1096 : BitVec 32 := v1095
  let v1097 : Index := Scalar.indexCast v1096
  let c0_673 : Index := 0#32
  ![v1097.toNat, 0]
def k2_mult2 (k2_t1 : Fin k2_t1_loop.trips) : BitVec 32 :=
  let c0_i32 : BitVec 32 := 0#32
  let c1_i32 : BitVec 32 := 1#32
  let arg9 : BitVec 32 := Scf.iv c0_i32 c1_i32 k2_t1
  let c128_i32_674 : BitVec 32 := 128#32
  let v1101 : BitVec 32 := Scalar.addi arg9 c128_i32_674
  let c16_i32_675 : BitVec 32 := 16#32
  let v1102 : BitVec 32 := Scalar.muli v1101 c16_i32_675
  v1102
def k2_off2 (k2_t1 : Fin k2_t1_loop.trips) : Fin 2 → Nat :=
  let c0_i32 : BitVec 32 := 0#32
  let c1_i32 : BitVec 32 := 1#32
  let arg9 : BitVec 32 := Scf.iv c0_i32 c1_i32 k2_t1
  let c128_i32_674 : BitVec 32 := 128#32
  let v1101 : BitVec 32 := Scalar.addi arg9 c128_i32_674
  let c16_i32_675 : BitVec 32 := 16#32
  let v1102 : BitVec 32 := Scalar.muli v1101 c16_i32_675
  let v1103 : BitVec 32 := v1102
  let v1104 : Index := Scalar.indexCast v1103
  let c0_676 : Index := 0#32
  ![v1104.toNat, 0]
def k2_off3 (k2_t1 : Fin k2_t1_loop.trips) : Fin 2 → Nat :=
  let c0_i32 : BitVec 32 := 0#32
  let c1_i32 : BitVec 32 := 1#32
  let arg9 : BitVec 32 := Scf.iv c0_i32 c1_i32 k2_t1
  let c65_i32 : BitVec 32 := 65#32
  let v1114 : BitVec 32 := Scalar.muli arg9 c65_i32
  let v1115 : Index := Scalar.indexCast v1114
  let c0_678 : Index := 0#32
  ![v1115.toNat, 0]
@[reducible] def k2_t2_loop : Scf.Loop 32 :=
  let c0_i32_670 : BitVec 32 := 0#32
  let c60_i32 : BitVec 32 := 60#32
  let v1094 : BitVec 32 := Scalar.addi c0_i32_670 c60_i32
  let c1_i32_671 : BitVec 32 := 1#32
  ⟨c0_i32_670, v1094, c1_i32_671⟩
def k2_off4 (k2_t2 : Fin k2_t2_loop.trips) : Fin 2 → Nat :=
  let c0_i32_670 : BitVec 32 := 0#32
  let c1_i32_671 : BitVec 32 := 1#32
  let arg9 : BitVec 32 := Scf.iv c0_i32_670 c1_i32_671 k2_t2
  let v1102 : Index := Scalar.indexCast arg9
  let c0_674 : Index := 0#32
  ![v1102.toNat, 0]
def k2_off5 (k2_t2 : Fin k2_t2_loop.trips) : Fin 3 → Nat :=
  let c0_i32_670 : BitVec 32 := 0#32
  let c1_i32_671 : BitVec 32 := 1#32
  let arg9 : BitVec 32 := Scf.iv c0_i32_670 c1_i32_671 k2_t2
  let v1114 : Index := Scalar.indexCast arg9
  let c0_680 : Index := 0#32
  let c0_681 : Index := 0#32
  ![v1114.toNat, 0, 0]
def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc2_transform_3 (i : grid2.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc2_transform_5 (i : grid2.Coords) : Fin 3 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  let c0_i32_1 : BitVec 32 := 0#32
  ![c0_i32.toNat, c0_i32_0.toNat, v0.toNat]

abbrev stage2_0 : Fin 2 → Memref sig .tc .vmem S4096x128 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S60x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x256 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x256 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S60x60x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![16], ![false]⟩

@[reducible] def k3_t1_loop : Scf.Loop 32 :=
  let c0_i32 : BitVec 32 := 0#32
  let c128_i32 : BitVec 32 := 128#32
  let v0 : BitVec 32 := Scalar.addi c0_i32 c128_i32
  let c1_i32 : BitVec 32 := 1#32
  ⟨c0_i32, v0, c1_i32⟩
def k3_mult1 (k3_t1 : Fin k3_t1_loop.trips) : BitVec 32 :=
  let c0_i32 : BitVec 32 := 0#32
  let c1_i32 : BitVec 32 := 1#32
  let arg9 : BitVec 32 := Scf.iv c0_i32 c1_i32 k3_t1
  let c16_i32 : BitVec 32 := 16#32
  let v1095 : BitVec 32 := Scalar.muli arg9 c16_i32
  v1095
def k3_off1 (k3_t1 : Fin k3_t1_loop.trips) : Fin 2 → Nat :=
  let c0_i32 : BitVec 32 := 0#32
  let c1_i32 : BitVec 32 := 1#32
  let arg9 : BitVec 32 := Scf.iv c0_i32 c1_i32 k3_t1
  let c16_i32 : BitVec 32 := 16#32
  let v1095 : BitVec 32 := Scalar.muli arg9 c16_i32
  let v1096 : BitVec 32 := v1095
  let v1097 : Index := Scalar.indexCast v1096
  let c0_673 : Index := 0#32
  ![v1097.toNat, 0]
def k3_mult2 (k3_t1 : Fin k3_t1_loop.trips) : BitVec 32 :=
  let c0_i32 : BitVec 32 := 0#32
  let c1_i32 : BitVec 32 := 1#32
  let arg9 : BitVec 32 := Scf.iv c0_i32 c1_i32 k3_t1
  let c128_i32_674 : BitVec 32 := 128#32
  let v1101 : BitVec 32 := Scalar.addi arg9 c128_i32_674
  let c16_i32_675 : BitVec 32 := 16#32
  let v1102 : BitVec 32 := Scalar.muli v1101 c16_i32_675
  v1102
def k3_off2 (k3_t1 : Fin k3_t1_loop.trips) : Fin 2 → Nat :=
  let c0_i32 : BitVec 32 := 0#32
  let c1_i32 : BitVec 32 := 1#32
  let arg9 : BitVec 32 := Scf.iv c0_i32 c1_i32 k3_t1
  let c128_i32_674 : BitVec 32 := 128#32
  let v1101 : BitVec 32 := Scalar.addi arg9 c128_i32_674
  let c16_i32_675 : BitVec 32 := 16#32
  let v1102 : BitVec 32 := Scalar.muli v1101 c16_i32_675
  let v1103 : BitVec 32 := v1102
  let v1104 : Index := Scalar.indexCast v1103
  let c0_676 : Index := 0#32
  ![v1104.toNat, 0]
def k3_off3 (k3_t1 : Fin k3_t1_loop.trips) : Fin 2 → Nat :=
  let c0_i32 : BitVec 32 := 0#32
  let c1_i32 : BitVec 32 := 1#32
  let arg9 : BitVec 32 := Scf.iv c0_i32 c1_i32 k3_t1
  let c65_i32 : BitVec 32 := 65#32
  let v1114 : BitVec 32 := Scalar.muli arg9 c65_i32
  let v1115 : Index := Scalar.indexCast v1114
  let c0_678 : Index := 0#32
  ![v1115.toNat, 0]
@[reducible] def k3_t2_loop : Scf.Loop 32 :=
  let c0_i32_670 : BitVec 32 := 0#32
  let c60_i32 : BitVec 32 := 60#32
  let v1094 : BitVec 32 := Scalar.addi c0_i32_670 c60_i32
  let c1_i32_671 : BitVec 32 := 1#32
  ⟨c0_i32_670, v1094, c1_i32_671⟩
def k3_off4 (k3_t2 : Fin k3_t2_loop.trips) : Fin 2 → Nat :=
  let c0_i32_670 : BitVec 32 := 0#32
  let c1_i32_671 : BitVec 32 := 1#32
  let arg9 : BitVec 32 := Scf.iv c0_i32_670 c1_i32_671 k3_t2
  let v1102 : Index := Scalar.indexCast arg9
  let c0_674 : Index := 0#32
  ![v1102.toNat, 0]
def k3_off5 (k3_t2 : Fin k3_t2_loop.trips) : Fin 3 → Nat :=
  let c0_i32_670 : BitVec 32 := 0#32
  let c1_i32_671 : BitVec 32 := 1#32
  let arg9 : BitVec 32 := Scf.iv c0_i32_670 c1_i32_671 k3_t2
  let v1114 : Index := Scalar.indexCast arg9
  let c0_680 : Index := 0#32
  let c0_681 : Index := 0#32
  ![v1114.toNat, 0, 0]
def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let c48_i32 : BitVec 32 := 48#32
  let v0 : BitVec 32 := Scalar.addi c48_i32 arg0
  let c0_i32 : BitVec 32 := 0#32
  let c0_i32_0 : BitVec 32 := 0#32
  ![c0_i32.toNat, v0.toNat]

def cc3_transform_3 (i : grid3.Coords) : Fin 2 → Nat :=
  let arg0 : BitVec 32 := BitVec.ofNat 32 (i 0).val
  let c48_i32 : BitVec 32 := 48#32
  let v0 : BitVec 32 := Scalar.addi c48_i32 arg0
  let c0_i32 : BitVec 32 := 0#32
  let c0_i32_0 : BitVec 32 := 0#32
  ![c0_i32.toNat, v0.toNat]

def cc3_transform_5 (i : grid3.Coords) : Fin 3 → Nat :=
  let arg0 : BitVec 32 := BitVec.ofNat 32 (i 0).val
  let c48_i32 : BitVec 32 := 48#32
  let v0 : BitVec 32 := Scalar.addi c48_i32 arg0
  let c0_i32 : BitVec 32 := 0#32
  let c0_i32_0 : BitVec 32 := 0#32
  let c0_i32_1 : BitVec 32 := 0#32
  ![c0_i32.toNat, c0_i32_0.toNat, v0.toNat]

abbrev stage3_0 : Fin 2 → Memref sig .tc .vmem S4096x128 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S60x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x256 .i32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x256 .i32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S60x60x256 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]
-- ==== ReferenceIdeal.lean ====
abbrev S65536x128 : Shape := ⟨2, ![65536, 128]⟩
abbrev S60x4096 : Shape := ⟨2, ![60, 4096]⟩
abbrev S16384 : Shape := ⟨1, ![16384]⟩
abbrev S262144x128 : Shape := ⟨2, ![262144, 128]⟩
abbrev S16384x16x128 : Shape := ⟨3, ![16384, 16, 128]⟩
abbrev S16384x16x128x4 : Shape := ⟨4, ![16384, 16, 128, 4]⟩
abbrev S16384x16x4x128 : Shape := ⟨4, ![16384, 16, 4, 128]⟩
abbrev S16384x64x128 : Shape := ⟨3, ![16384, 64, 128]⟩
abbrev S16384x60x128 : Shape := ⟨3, ![16384, 60, 128]⟩
abbrev S60x16384 : Shape := ⟨2, ![60, 16384]⟩
abbrev S16384x60 : Shape := ⟨2, ![16384, 60]⟩
abbrev S_ : Shape := ⟨0, ![]⟩
abbrev S16384x60x60 : Shape := ⟨3, ![16384, 60, 60]⟩
abbrev S16384x60x1 : Shape := ⟨3, ![16384, 60, 1]⟩
abbrev S16384x1x60 : Shape := ⟨3, ![16384, 1, 60]⟩
abbrev S60 : Shape := ⟨1, ![60]⟩
abbrev S1x60 : Shape := ⟨2, ![1, 60]⟩
abbrev S16384x1 : Shape := ⟨2, ![16384, 1]⟩

abbrev nBuf : Space → Nat
  | .hbm => 68
  | .vmem => 0
  | .smem => 0
  | _ => 0

abbrev bufTy : (tb : Table) → Fin (tcTables nBuf tb) → BufTy
  | .hbm, ⟨0, _⟩ => ⟨S65536x128, .i32⟩
  | .hbm, ⟨1, _⟩ => ⟨S60x4096, .f32⟩
  | .hbm, ⟨2, _⟩ => ⟨S65536x128, .i32⟩
  | .hbm, ⟨3, _⟩ => ⟨S60x4096, .f32⟩
  | .hbm, ⟨4, _⟩ => ⟨S65536x128, .i32⟩
  | .hbm, ⟨5, _⟩ => ⟨S60x4096, .f32⟩
  | .hbm, ⟨6, _⟩ => ⟨S65536x128, .i32⟩
  | .hbm, ⟨7, _⟩ => ⟨S60x4096, .f32⟩
  | .hbm, ⟨8, _⟩ => ⟨S16384, .i32⟩
  | .hbm, ⟨9, _⟩ => ⟨S16384, .i32⟩
  | .hbm, ⟨10, _⟩ => ⟨S262144x128, .i32⟩
  | .hbm, ⟨11, _⟩ => ⟨S16384x16x128, .i32⟩
  | .hbm, ⟨12, _⟩ => ⟨S16384x16x128x4, .i8⟩
  | .hbm, ⟨13, _⟩ => ⟨S16384x16x4x128, .i8⟩
  | .hbm, ⟨14, _⟩ => ⟨S16384x64x128, .i8⟩
  | .hbm, ⟨15, _⟩ => ⟨S16384x60x128, .i8⟩
  | .hbm, ⟨16, _⟩ => ⟨S60x16384, .f32⟩
  | .hbm, ⟨17, _⟩ => ⟨S16384x60, .f32⟩
  | .hbm, ⟨18, _⟩ => ⟨S16384x60x128, .i32⟩
  | .hbm, ⟨19, _⟩ => ⟨S16384x60x128, .f32⟩
  | .hbm, ⟨20, _⟩ => ⟨S16384x60x128, .f32⟩
  | .hbm, ⟨21, _⟩ => ⟨S_, .f32⟩
  | .hbm, ⟨22, _⟩ => ⟨S16384x60, .f32⟩
  | .hbm, ⟨23, _⟩ => ⟨S16384x60x128, .bf16⟩
  | .hbm, ⟨24, _⟩ => ⟨S16384x60x60, .f32⟩
  | .hbm, ⟨25, _⟩ => ⟨S16384x60, .f32⟩
  | .hbm, ⟨26, _⟩ => ⟨S16384x60, .f32⟩
  | .hbm, ⟨27, _⟩ => ⟨S_, .f32⟩
  | .hbm, ⟨28, _⟩ => ⟨S16384x60, .f32⟩
  | .hbm, ⟨29, _⟩ => ⟨S16384x60, .f32⟩
  | .hbm, ⟨30, _⟩ => ⟨S16384x60x1, .f32⟩
  | .hbm, ⟨31, _⟩ => ⟨S16384x1x60, .f32⟩
  | .hbm, ⟨32, _⟩ => ⟨S16384x60x60, .f32⟩
  | .hbm, ⟨33, _⟩ => ⟨S16384x60x60, .f32⟩
  | .hbm, ⟨34, _⟩ => ⟨S16384x60x60, .f32⟩
  | .hbm, ⟨35, _⟩ => ⟨S16384x60x1, .f32⟩
  | .hbm, ⟨36, _⟩ => ⟨S16384x1x60, .f32⟩
  | .hbm, ⟨37, _⟩ => ⟨S16384x60x60, .f32⟩
  | .hbm, ⟨38, _⟩ => ⟨S16384x60x60, .f32⟩
  | .hbm, ⟨39, _⟩ => ⟨S16384x60x60, .f32⟩
  | .hbm, ⟨40, _⟩ => ⟨S16384x60x60, .f32⟩
  | .hbm, ⟨41, _⟩ => ⟨S16384x60x60, .f32⟩
  | .hbm, ⟨42, _⟩ => ⟨S60, .i32⟩
  | .hbm, ⟨43, _⟩ => ⟨S1x60, .i32⟩
  | .hbm, ⟨44, _⟩ => ⟨S16384x1, .i32⟩
  | .hbm, ⟨45, _⟩ => ⟨S16384x60, .i32⟩
  | .hbm, ⟨46, _⟩ => ⟨S16384x60, .i32⟩
  | .hbm, ⟨47, _⟩ => ⟨S16384x60, .i1⟩
  | .hbm, ⟨48, _⟩ => ⟨S1x60, .i32⟩
  | .hbm, ⟨49, _⟩ => ⟨S16384x1, .i32⟩
  | .hbm, ⟨50, _⟩ => ⟨S16384x60, .i32⟩
  | .hbm, ⟨51, _⟩ => ⟨S16384x60, .i32⟩
  | .hbm, ⟨52, _⟩ => ⟨S16384x60, .i1⟩
  | .hbm, ⟨53, _⟩ => ⟨S16384x60x1, .i1⟩
  | .hbm, ⟨54, _⟩ => ⟨S16384x1x60, .i1⟩
  | .hbm, ⟨55, _⟩ => ⟨S16384x60x60, .i1⟩
  | .hbm, ⟨56, _⟩ => ⟨S16384x60x60, .i1⟩
  | .hbm, ⟨57, _⟩ => ⟨S16384x60x60, .i1⟩
  | .hbm, ⟨58, _⟩ => ⟨S16384x60x1, .i1⟩
  | .hbm, ⟨59, _⟩ => ⟨S16384x1x60, .i1⟩
  | .hbm, ⟨60, _⟩ => ⟨S16384x60x60, .i1⟩
  | .hbm, ⟨61, _⟩ => ⟨S16384x60x60, .i1⟩
  | .hbm, ⟨62, _⟩ => ⟨S16384x60x60, .i1⟩
  | .hbm, ⟨63, _⟩ => ⟨S16384x60x60, .i1⟩
  | .hbm, ⟨64, _⟩ => ⟨S_, .f32⟩
  | .hbm, ⟨65, _⟩ => ⟨S_, .f32⟩
  | .hbm, ⟨66, _⟩ => ⟨S16384x60x60, .f32⟩
  | .hbm, ⟨67, _⟩ => ⟨S16384x60x60, .f32⟩
  | _, _ => ⟨S65536x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_cst_1 : Ref sig .tc := ⟨.hbm, 64, rfl⟩
abbrev main_call0_v0 : Ref sig .tc := ⟨.hbm, 65, rfl⟩
abbrev main_call0_v1 : Ref sig .tc := ⟨.hbm, 66, rfl⟩
abbrev main_v52 : Ref sig .tc := ⟨.hbm, 67, rfl⟩

abbrev nD : Nat := 1
abbrev τ : Topo := Topo.v7x

variable {F : FTy → Type} [FloatOps F]
-- ==== Proof.Flat.lean ====
module

public import proofs.«01_k».proof.Proof.Gen.KernelIdeal.Skeleton
public import Idealize.ShloMosaic.Lib.Tactic
public import Idealize.ShloMosaic.Lib.Tactic.ProgEq

@[expose] public section

set_option synthInstance.maxSize 4096

noncomputable section

namespace Cert.KernelIdeal.Dist

open Idealize.ShloMosaic Idealize.SL.Sem
open Cert.KernelIdeal Cert.KernelIdeal.Gen

variable {F : FTy → Type} [FloatOps F]

/-- Row `i` of every 65-row group of the first scratch array, read over 128 groups, lies inside that array. -/
theorem inb_gram (i : Nat) (hi : i < 60) : ∀ a, S128x128.size a = 0 ∨ (![i, 0] : Fin 2 → Nat) a + (![65, 1] : Fin 2 → Nat) a * (S128x128.size a - 1) < S8328x128.size a := by
  intro a; right; fin_cases a <;> simp <;> omega

/-- The half of slab `i` of the result block that starts at lane `j` lies inside the block. -/
theorem inb_out (i j : Nat) (hi : i < 60) (hj : j ≤ 128) : ∀ a, (![i, 0, j] : Fin 3 → Nat) a + S1x60x128.size a ≤ S60x60x256.size a := by
  intro a; fin_cases a <;> simp <;> omega

/-- The half of row `i` of the second scratch array that starts at lane `j` lies inside that array. -/
theorem inb_nrm (i j : Nat) (hi : i < 60) (hj : j ≤ 128) : ∀ a, (![i, j] : Fin 2 → Nat) a + S1x128.size a ≤ S60x256.size a := by
  intro a; fin_cases a <;> simp <;> omega

/-- Row `i` of a 128 by 128 array is a slice of it. -/
theorem slices_row (i : Nat) (hi : i < 128) : S128x128.Slices ![i, 0] S1x128 := by
  refine ⟨rfl, ?_⟩; intro a; fin_cases a <;> simp <;> omega

/-- Row `o` of the transpose of `v`. -/
def diagPay (o : Nat) (ho : o < 128) (v : Vec F S128x128 .f32) : FVec F S1x128 .f32 :=
  shapeCast S1x128 (extractStridedSlice S1x128 ![o, 0] (transpose S128x128 [1, 0] v transposes_S128x128_p1_0_S128x128) (slices_row o ho)) shapeCasts_S1x128_S1x128

/-- One of the 60 unrolled steps, with its number `i`: read row `i` of every pair's products, transpose, and store the two halves as slab `i` of the result block and the two norms as row `i` of the second scratch array. -/
def slab (arg5 : Memref sig .tc .vmem S60x60x256 .f32) (arg6 : Memref sig .tc .vmem S8328x128 .f32) (arg7 : Memref sig .tc .vmem S60x256 .f32) (i : Nat) (hi : i < 60) :
    Prog (TpuEff nD τ sig (Elt F) Λ₀ .tc) PUnit := do
  let v : Vec F S128x128 .f32 ← Prog.lift (.load arg6 (⟨![i, 0], S128x128.size, ![65, 1], inb_gram i hi⟩ : LoadRect S8328x128) (View.loadsAt_vmem h_S128x128))
  let _x : Vec F S1x60x128 .f32 ← Prog.lift (.load arg5 (Rect.unit (s := S60x60x256) ![i, 0, 0] S1x60x128.size (inb_out i 0 hi (by omega))).toLoadRect (View.loadsAt_vmem h_S1x60x128))
  Prog.lift (.store arg5 (Rect.unit (s := S60x60x256) ![i, 0, 0] S1x60x128.size (inb_out i 0 hi (by omega))) (k0_pay9 v) Finset.univ (View.stores_vmem_bits_univ h_S1x60x128 rfl) (.inl rfl))
  let _y : Vec F S1x60x128 .f32 ← Prog.lift (.load arg5 (Rect.unit (s := S60x60x256) ![i, 0, 128] S1x60x128.size (inb_out i 128 hi (by omega))).toLoadRect (View.loadsAt_vmem h_S1x60x128))
  Prog.lift (.store arg5 (Rect.unit (s := S60x60x256) ![i, 0, 128] S1x60x128.size (inb_out i 128 hi (by omega))) (k0_pay10 v) Finset.univ (View.stores_vmem_bits_univ h_S1x60x128 rfl) (.inl rfl))
  let _z : Vec F S1x128 .f32 ← Prog.lift (.load arg7 (Rect.unit (s := S60x256) ![i, 0] S1x128.size (inb_nrm i 0 hi (by omega))).toLoadRect (View.loadsAt_vmem h_S1x128))
  Prog.lift (.store arg7 (Rect.unit (s := S60x256) ![i, 0] S1x128.size (inb_nrm i 0 hi (by omega))) (diagPay i (by omega) v) Finset.univ (View.stores_vmem_bits_univ h_S1x128 rfl) (.inl rfl))
  let _w : Vec F S1x128 .f32 ← Prog.lift (.load arg7 (Rect.unit (s := S60x256) ![i, 128] S1x128.size (inb_nrm i 128 hi (by omega))).toLoadRect (View.loadsAt_vmem h_S1x128))
  Prog.lift (.store arg7 (Rect.unit (s := S60x256) ![i, 128] S1x128.size (inb_nrm i 128 hi (by omega))) (diagPay (64 + i) (by omega) v) Finset.univ (View.stores_vmem_bits_univ h_S1x128 rfl) (.inl rfl))

/-- The slabs from row `60 - n` on, then `k`. -/
def slabs (arg5 : Memref sig .tc .vmem S60x60x256 .f32) (arg6 : Memref sig .tc .vmem S8328x128 .f32) (arg7 : Memref sig .tc .vmem S60x256 .f32)
    (k : Prog (TpuEff nD τ sig (Elt F) Λ₀ .tc) PUnit) : (n : Nat) → n ≤ 60 → Prog (TpuEff nD τ sig (Elt F) Λ₀ .tc) PUnit
  | 0, _ => k
  | n + 1, h => slab arg5 arg6 arg7 (59 - n) (by omega) >>= fun _ => slabs arg5 arg6 arg7 k n (by omega)

/-- What the body does after the 60 steps: scale the norms, read the counts, and run the loop over the slabs that turns products into distances. -/
def finishing (i : grid0.Coords) (arg1 : Memref sig .tc .vmem S4096x128 .i32) (harg1 : arg1.IsWhole) (arg2 : Memref sig .tc .vmem S60x256 .f32) (harg2 : arg2.IsWhole) (arg3 : Memref sig .tc .vmem S1x256 .i32) (harg3 : arg3.IsWhole) (arg4 : Memref sig .tc .vmem S1x256 .i32) (harg4 : arg4.IsWhole) (arg5 : Memref sig .tc .vmem S60x60x256 .f32) (harg5 : arg5.IsWhole) (arg6 : Memref sig .tc .vmem S8328x128 .f32) (harg6 : arg6.IsWhole) (arg7 : Memref sig .tc .vmem S60x256 .f32) (harg7 : arg7.IsWhole) :
    Prog (TpuEff nD τ sig (Elt F) Λ₀ .tc) PUnit := do
  let v1081 : Vec F S60x256 .f32 ← Prog.lift (.load arg2 (Rect.unit (s := S60x256) ![0, 0] S60x256.size inb_S60x256_S60x256_0_0).toLoadRect (View.loadsAt_vmem h_S60x256))
  let v1083 : Vec F S60x256 .f32 ← Prog.lift (.load arg7 (Rect.unit (s := S60x256) ![0, 0] S60x256.size inb_S60x256_S60x256_0_0).toLoadRect (View.loadsAt_vmem h_S60x256))
  let v1085 : Vec F S60x256 .f32 ← Prog.lift (.load arg7 (Rect.unit (s := S60x256) ![0, 0] S60x256.size inb_S60x256_S60x256_0_0).toLoadRect (View.loadsAt_vmem h_S60x256))
  Prog.lift (.store arg7 (Rect.unit (s := S60x256) ![0, 0] S60x256.size inb_S60x256_S60x256_0_0) (k0_pay325 v1081 v1083) Finset.univ (View.stores_vmem_bits_univ h_S60x256 rfl) (.inl rfl))
  let v1088 : Vec F S1x256 .i32 ← Prog.lift (.load arg3 (Rect.unit (s := S1x256) ![0, 0] S1x256.size inb_S1x256_S1x256_0_0).toLoadRect (View.loadsAt_vmem h_S1x256))
  let v1090 : Vec F S1x256 .i32 ← Prog.lift (.load arg4 (Rect.unit (s := S1x256) ![0, 0] S1x256.size inb_S1x256_S1x256_0_0).toLoadRect (View.loadsAt_vmem h_S1x256))
  Scf.Loop.for k0_t2_loop k0_t2_ok ⟨⟩ (k0_t2_body i arg1 harg1 arg2 harg2 arg3 harg3 arg4 harg4 arg5 harg5 arg6 harg6 arg7 harg7 (k0_pay326 v1088) v1090)
  pure ⟨⟩

/-- The body of every one of the four calls: the pair loop, the 60 steps, the finishing. -/
def body (i : grid0.Coords) (arg1 : Memref sig .tc .vmem S4096x128 .i32) (harg1 : arg1.IsWhole) (arg2 : Memref sig .tc .vmem S60x256 .f32) (harg2 : arg2.IsWhole) (arg3 : Memref sig .tc .vmem S1x256 .i32) (harg3 : arg3.IsWhole) (arg4 : Memref sig .tc .vmem S1x256 .i32) (harg4 : arg4.IsWhole) (arg5 : Memref sig .tc .vmem S60x60x256 .f32) (harg5 : arg5.IsWhole) (arg6 : Memref sig .tc .vmem S8328x128 .f32) (harg6 : arg6.IsWhole) (arg7 : Memref sig .tc .vmem S60x256 .f32) (harg7 : arg7.IsWhole) :
    Prog (TpuEff nD τ sig (Elt F) Λ₀ .tc) PUnit := do
  Scf.Loop.for k0_t1_loop k0_t1_ok ⟨⟩ (k0_t1_body i arg1 harg1 arg2 harg2 arg3 harg3 arg4 harg4 arg5 harg5 arg6 harg6 arg7 harg7)
  slabs arg5 arg6 arg7 (finishing i arg1 harg1 arg2 harg2 arg3 harg3 arg4 harg4 arg5 harg5 arg6 harg6 arg7 harg7) 60 (le_refl 60)

set_option maxRecDepth 1000000 in
set_option maxHeartbeats 4000000 in
/-- The printed body of call 0 is `body`. -/
theorem cc0_eq (i : grid0.Coords) (arg1 : Memref sig .tc .vmem S4096x128 .i32) (harg1 : arg1.IsWhole) (arg2 : Memref sig .tc .vmem S60x256 .f32) (harg2 : arg2.IsWhole) (arg3 : Memref sig .tc .vmem S1x256 .i32) (harg3 : arg3.IsWhole) (arg4 : Memref sig .tc .vmem S1x256 .i32) (harg4 : arg4.IsWhole) (arg5 : Memref sig .tc .vmem S60x60x256 .f32) (harg5 : arg5.IsWhole) (arg6 : Memref sig .tc .vmem S8328x128 .f32) (harg6 : arg6.IsWhole) (arg7 : Memref sig .tc .vmem S60x256 .f32) (harg7 : arg7.IsWhole) :
    cc0_dist0 (F := F) i arg1 harg1 arg2 harg2 arg3 harg3 arg4 harg4 arg5 harg5 arg6 harg6 arg7 harg7 = body i arg1 harg1 arg2 harg2 arg3 harg3 arg4 harg4 arg5 harg5 arg6 harg6 arg7 harg7 := by
  rw [cc0_dist0_eq_skeleton]
  unfold cc0_dist0_skel
  rw [k0_part35_eq_skeleton]
  unfold k0_part35_skel
  rw [k0_part1_eq_skeleton]
  unfold k0_part1_skel
  rw [bind_assoc, bind_assoc]
  refine congrArg _ (funext fun _ => ?_)
  rfl

set_option maxRecDepth 1000000 in
set_option maxHeartbeats 4000000 in
/-- The printed body of call 1 is `body`. -/
theorem cc1_eq (i : grid1.Coords) (arg1 : Memref sig .tc .vmem S4096x128 .i32) (harg1 : arg1.IsWhole) (arg2 : Memref sig .tc .vmem S60x256 .f32) (harg2 : arg2.IsWhole) (arg3 : Memref sig .tc .vmem S1x256 .i32) (harg3 : arg3.IsWhole) (arg4 : Memref sig .tc .vmem S1x256 .i32) (harg4 : arg4.IsWhole) (prev : Memref sig .tc .hbm S60x60x16384 .f32) (hprev : prev.IsWhole) (arg5 : Memref sig .tc .vmem S60x60x256 .f32) (harg5 : arg5.IsWhole) (arg6 : Memref sig .tc .vmem S8328x128 .f32) (harg6 : arg6.IsWhole) (arg7 : Memref sig .tc .vmem S60x256 .f32) (harg7 : arg7.IsWhole) :
    cc1_dist1 (F := F) i arg1 harg1 arg2 harg2 arg3 harg3 arg4 harg4 prev hprev arg5 harg5 arg6 harg6 arg7 harg7 = body i arg1 harg1 arg2 harg2 arg3 harg3 arg4 harg4 arg5 harg5 arg6 harg6 arg7 harg7 := by
  rw [cc1_dist1_eq_skeleton]
  unfold cc1_dist1_skel
  rw [k1_part35_eq_skeleton]
  unfold k1_part35_skel
  rw [k1_part1_eq_skeleton]
  unfold k1_part1_skel
  rw [bind_assoc, bind_assoc]
  exact ProgEq.bind_congr _ _ _ _ _ _ _ rfl fun _ => rfl

set_option maxRecDepth 1000000 in
set_option maxHeartbeats 4000000 in
/-- The printed body of call 2 is `body`. -/
theorem cc2_eq (i : grid2.Coords) (arg1 : Memref sig .tc .vmem S4096x128 .i32) (harg1 : arg1.IsWhole) (arg2 : Memref sig .tc .vmem S60x256 .f32) (harg2 : arg2.IsWhole) (arg3 : Memref sig .tc .vmem S1x256 .i32) (harg3 : arg3.IsWhole) (arg4 : Memref sig .tc .vmem S1x256 .i32) (harg4 : arg4.IsWhole) (prev : Memref sig .tc .hbm S60x60x16384 .f32) (hprev : prev.IsWhole) (arg5 : Memref sig .tc .vmem S60x60x256 .f32) (harg5 : arg5.IsWhole) (arg6 : Memref sig .tc .vmem S8328x128 .f32) (harg6 : arg6.IsWhole) (arg7 : Memref sig .tc .vmem S60x256 .f32) (harg7 : arg7.IsWhole) :
    cc2_dist2 (F := F) i arg1 harg1 arg2 harg2 arg3 harg3 arg4 harg4 prev hprev arg5 harg5 arg6 harg6 arg7 harg7 = body i arg1 harg1 arg2 harg2 arg3 harg3 arg4 harg4 arg5 harg5 arg6 harg6 arg7 harg7 := by
  rw [cc2_dist2_eq_skeleton]
  unfold cc2_dist2_skel
  rw [k2_part35_eq_skeleton]
  unfold k2_part35_skel
  rw [k2_part1_eq_skeleton]
  unfold k2_part1_skel
  rw [bind_assoc, bind_assoc]
  exact ProgEq.bind_congr _ _ _ _ _ _ _ rfl fun _ => rfl

set_option maxRecDepth 1000000 in
set_option maxHeartbeats 4000000 in
/-- The printed body of call 3 is `body`. -/
theorem cc3_eq (i : grid3.Coords) (arg1 : Memref sig .tc .vmem S4096x128 .i32) (harg1 : arg1.IsWhole) (arg2 : Memref sig .tc .vmem S60x256 .f32) (harg2 : arg2.IsWhole) (arg3 : Memref sig .tc .vmem S1x256 .i32) (harg3 : arg3.IsWhole) (arg4 : Memref sig .tc .vmem S1x256 .i32) (harg4 : arg4.IsWhole) (prev : Memref sig .tc .hbm S60x60x16384 .f32) (hprev : prev.IsWhole) (arg5 : Memref sig .tc .vmem S60x60x256 .f32) (harg5 : arg5.IsWhole) (arg6 : Memref sig .tc .vmem S8328x128 .f32) (harg6 : arg6.IsWhole) (arg7 : Memref sig .tc .vmem S60x256 .f32) (harg7 : arg7.IsWhole) :
    cc3_dist3 (F := F) i arg1 harg1 arg2 harg2 arg3 harg3 arg4 harg4 prev hprev arg5 harg5 arg6 harg6 arg7 harg7 = body i arg1 harg1 arg2 harg2 arg3 harg3 arg4 harg4 arg5 harg5 arg6 harg6 arg7 harg7 := by
  rw [cc3_dist3_eq_skeleton]
  unfold cc3_dist3_skel
  rw [k3_part35_eq_skeleton]
  unfold k3_part35_skel
  rw [k3_part1_eq_skeleton]
  unfold k3_part1_skel
  rw [bind_assoc, bind_assoc]
  exact ProgEq.bind_congr _ _ _ _ _ _ _ rfl fun _ => rfl

end Cert.KernelIdeal.Dist

end
-- ==== Proof.Body.lean ====
module

public import proofs.«01_k».proof.Proof.Flat
public import Idealize.ShloMosaic.Lib.Exec
public import Idealize.ShloMosaic.Lib.Tactic
public import Idealize.ShloMosaic.Lib.Pipeline.Kit
public import Idealize.ShloMosaic.Lib.ValueIdxCore
public import Idealize.ShloMosaic.Lib.WritesUnit

@[expose] public section

set_option maxHeartbeats 1000000

noncomputable section

namespace Cert.KernelIdeal.Dist

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Idealize.ShloMosaic.ValueIdx

variable {F : FTy → Type} [FloatOps F]

local notation "𝕄" => MT nD τ sig Unit (Elt F) ℕ (UR sig nD τ) ℕ

/-- Where a unit-stride rectangle's index lands. -/
theorem idx_unit {s : Shape} {off off' size : Fin s.rank → ℕ} (inb : ∀ a, off a + size a ≤ s.size a) (heq : off = off')
    (z : (Rect.unit off size inb).shape.Idx) (a : Fin s.rank) : ((Rect.unit off size inb).toLoadRect.idx z a).val = off' a + (z a).val := by
  subst heq
  show off a + 1 * (z a).val = _
  rw [Nat.one_mul]

/-! ## What a grid point computes -/

/-- The 16 rows of packed words of node `n` of the block. -/
def rowsAt (x1 : Vec F S4096x128 .i32) (n : Nat) (hn : n < 256) : Vec F S16x128 .i32 := fun z =>
  x1 (ix2 ⟨16 * n + (z 0).val, by have h : (z 0).val < 16 := (z 0).isLt; omega⟩ ⟨(z 1).val, by have h : (z 1).val < 128 := (z 1).isLt; omega⟩)

/-- The products of nodes `p` and `p + 128`: what the first loop's trip `p` stores. -/
def pairGram (x1 : Vec F S4096x128 .i32) (p : Nat) (hp : p < 128) : FVec F S64x128 .f32 :=
  k0_pay2 (rowsAt x1 p (by omega)) (rowsAt x1 (p + 128) (by omega))

/-- The product of slots `i` and `j` of node `l`, read off its pair's products. -/
def gramAt (x1 : Vec F S4096x128 .i32) (i j l : Nat) (hi : i < 60) (hj : j < 60) (hl : l < 256) : F .f32 :=
  pairGram x1 (l % 128) (by omega) (ix2 ⟨i, by omega⟩ ⟨64 * (l / 128) + j, by omega⟩)

/-- The scaled squared norms of the block's rows. -/
def normBlk (x1 : Vec F S4096x128 .i32) (x2 : Vec F S60x256 .f32) : FVec F S60x256 .f32 :=
  k0_pay325 x2 fun z => gramAt x1 (z 0).val (z 0).val (z 1).val (z 0).isLt (z 0).isLt (z 1).isLt

/-- One row of a block. -/
def rowOf (x : Vec F S60x256 .f32) (i : Nat) (hi : i < 60) : Vec F S1x256 .f32 := fun z =>
  x (ix2 ⟨i, hi⟩ ⟨(z 1).val, (z 1).isLt⟩)

theorem trips2 : k0_t2_loop.trips = 60 := by decide +kernel
theorem trips1 : k0_t1_loop.trips = 128 := by decide +kernel

/-- The block a grid point leaves in its output, of the blocks it reads. -/
def outBlk (x1 : Vec F S4096x128 .i32) (x2 : Vec F S60x256 .f32) (x3 x4 : Vec F S1x256 .i32) : Vec F S60x60x256 .f32 := fun y =>
  k0_pay1 (k0_pay326 x3) x4 ⟨(y 0).val, by rw [trips2]; exact (y 0).isLt⟩ (rowOf (normBlk x1 x2) (y 0).val (y 0).isLt)
    (rowOf x2 (y 0).val (y 0).isLt) (normBlk x1 x2) x2
    (fun z => gramAt x1 (y 0).val (z 1).val (z 2).val (y 0).isLt (z 1).isLt (z 2).isLt) (ix3 0 ⟨(y 1).val, (y 1).isLt⟩ ⟨(y 2).val, (y 2).isLt⟩)

/-! ## The first loop -/

section
variable (𝒱 : Variants) (c : Dev nD) (bd : Option 𝒱.V) (E : Set ℕ)
variable (i : grid0.Coords) (arg1 : Memref sig .tc .vmem S4096x128 .i32) (harg1 : arg1.IsWhole) (arg2 : Memref sig .tc .vmem S60x256 .f32) (harg2 : arg2.IsWhole) (arg3 : Memref sig .tc .vmem S1x256 .i32) (harg3 : arg3.IsWhole) (arg4 : Memref sig .tc .vmem S1x256 .i32) (harg4 : arg4.IsWhole) (arg5 : Memref sig .tc .vmem S60x60x256 .f32) (harg5 : arg5.IsWhole) (arg6 : Memref sig .tc .vmem S8328x128 .f32) (harg6 : arg6.IsWhole) (arg7 : Memref sig .tc .vmem S60x256 .f32) (harg7 : arg7.IsWhole)

/-- The memref's buffer, held whole at `X`. -/
abbrev owns {s : Shape} {e : EltTy} (c : Dev nD) (m : Memref sig .tc .vmem s e) (X : BufTy.Contents (Elt F) m.view.ty) : sProp 𝕄 :=
  iprop(m.view.loc (c : Thread nD τ) ↦[m.view.set]{fullShare} X)

/-- The first `k` pairs' products are stored. -/
def GramOk (x1 : Vec F S4096x128 .i32) (k : Nat) (f : BufTy.Contents (Elt F) arg6.view.ty) : Prop :=
  ∀ (p : Nat) (hp : p < 128), p < k → ∀ (z : S64x128.Idx) (y : S8328x128.Idx), (y 0).val = 65 * p + (z 0).val → (y 1).val = (z 1).val →
    arg6.view.read (Elt F) f y = pairGram x1 p hp z

theorem gram_trip (k : Fin k0_t1_loop.trips) (X1 : BufTy.Contents (Elt F) arg1.view.ty) (f : BufTy.Contents (Elt F) arg6.view.ty)
    (hf : GramOk arg6 (arg1.view.read (Elt F) X1) k.val f) :
    iprop(owns c arg1 X1 ∗ owns c arg6 f)
      ⊢ wp frame (wpE (defs₀ (F := F)) 𝒱 (c : Thread nD τ) bd) E (k0_t1_body (F := F) i arg1 harg1 arg2 harg2 arg3 harg3 arg4 harg4 arg5 harg5 arg6 harg6 arg7 harg7 k PUnit.unit)
        (fun _ => iprop(owns c arg1 X1 ∗ ∃ f', owns c arg6 f' ∗ ⌜GramOk arg6 (arg1.view.read (Elt F) X1) (k.val + 1) f'⌝)) := by
  have hk : k.val < 128 := Nat.lt_of_lt_of_le k.isLt k0_t1_abs.2.1
  have e1 : arg1.view.readAt (Elt F) (Rect.unit (s := S4096x128) (k0_off1 k) S16x128.size (k0_off1_inb k)).toLoadRect X1 = rowsAt (arg1.view.read (Elt F) X1) k.val (by omega) := by
    funext z
    rw [View.readAt_apply]
    refine congrArg _ (funext fun a => Fin.ext ((idx_unit _ (k0_off1_eq k) z a).trans ?_))
    fin_cases a <;> simp
  have e2 : arg1.view.readAt (Elt F) (Rect.unit (s := S4096x128) (k0_off2 k) S16x128.size (k0_off2_inb k)).toLoadRect X1 = rowsAt (arg1.view.read (Elt F) X1) (k.val + 128) (by omega) := by
    funext z
    rw [View.readAt_apply]
    refine congrArg _ (funext fun a => Fin.ext ((idx_unit _ (k0_off2_eq k) z a).trans ?_))
    fin_cases a <;> simp <;> omega
  unfold k0_t1_body owns
  iintro ⟨H1, H6⟩
  sl_exec
  sl_step
  isplitl [H1]; · iexact H1
  iexists _
  isplitl [H6]; · iexact H6
  ipureintro
  intro p hp hpk z y h0 h1
  have hz0 : (z 0).val < 64 := (z 0).isLt
  by_cases hpe : p = k.val
  · subst hpe
    refine (View.read_writes_cons_unit_of_mem _ _ _ _ _ y z (k0_off3_eq k) ?_).trans ?_
    · intro a; fin_cases a
      · simpa using h0
      · simpa using h1
    · unfold pairGram
      rw [← e1, ← e2]
  · refine (View.read_writes_cons_unit_of_not_mem _ _ _ _ _ y (k0_off3_eq k) 0 (Or.inl ?_)).trans ?_
    · simp; omega
    · exact hf p hp (by omega) z y h0 h1

end

end Cert.KernelIdeal.Dist

end
-- ==== Proof.Slab.lean ====
module

public import proofs.«01_k».proof.Proof.Body
public import Idealize.ShloMosaic.Lib.Pointwise

@[expose] public section

set_option maxHeartbeats 1000000

noncomputable section

namespace Cert.KernelIdeal.Dist

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-! ## The stored pieces, read at an index -/

theorem pay9_at (v : Vec F S128x128 .f32) (z : S1x60x128.Idx) :
    k0_pay9 v z = v (ValueIdx.ix2 ⟨(z 2).val, (z 2).isLt⟩ ⟨(z 1).val, by have h : (z 1).val < 60 := (z 1).isLt; omega⟩) := by
  unfold k0_pay9 k0_pay8
  pointwise
  exact congrArg v (ix2_eq_valueIdx _ _)

theorem pay10_at (v : Vec F S128x128 .f32) (z : S1x60x128.Idx) :
    k0_pay10 v z = v (ValueIdx.ix2 ⟨(z 2).val, (z 2).isLt⟩ ⟨64 + (z 1).val, by have h : (z 1).val < 60 := (z 1).isLt; omega⟩) := by
  unfold k0_pay10 k0_pay8
  pointwise
  exact congrArg v (ix2_eq_valueIdx _ _)

theorem diag_at (o : Nat) (ho : o < 128) (v : Vec F S128x128 .f32) (z : S1x128.Idx) :
    diagPay o ho v z = v (ValueIdx.ix2 ⟨(z 1).val, (z 1).isLt⟩ ⟨o, ho⟩) := by
  unfold diagPay
  pointwise
  exact congrArg v (ix2_eq_valueIdx _ _)

/-- The product of slots `i` and `j` of the node in lane `l`, as an entry of its pair's table. -/
theorem gramAt_eq (x1 : Vec F S4096x128 .i32) (i j l : Nat) (hi : i < 60) (hj : j < 60) (hl : l < 256) (p d : Nat) (hp : p < 128) (hd : d < 128)
    (h1 : l % 128 = p) (h2 : 64 * (l / 128) + j = d) :
    gramAt x1 i j l hi hj hl = pairGram x1 p hp (ValueIdx.ix2 ⟨i, by omega⟩ ⟨d, hd⟩) := by
  subst h1 h2; rfl

section
variable (𝒱 : Variants) (c : Dev nD) (bd : Option 𝒱.V) (E : Set ℕ)
variable (arg5 : Memref sig .tc .vmem S60x60x256 .f32) (arg6 : Memref sig .tc .vmem S8328x128 .f32) (arg7 : Memref sig .tc .vmem S60x256 .f32)

/-- The first `n` rows of the output block hold the slots' products, those of the norms block the slots' own. -/
def SlabOk (x1 : Vec F S4096x128 .i32) (n : Nat) (f : BufTy.Contents (Elt F) arg5.view.ty) (g : BufTy.Contents (Elt F) arg7.view.ty) : Prop :=
  (∀ y : S60x60x256.Idx, (y 0).val < n → arg5.view.read (Elt F) f y = gramAt x1 (y 0).val (y 1).val (y 2).val (y 0).isLt (y 1).isLt (y 2).isLt)
    ∧ (∀ y : S60x256.Idx, (y 0).val < n → arg7.view.read (Elt F) g y = gramAt x1 (y 0).val (y 0).val (y 1).val (y 0).isLt (y 0).isLt (y 1).isLt)

/-- Step `i`: if the slabs and norms below `i` hold their products before it, those below `i + 1` do after it. -/
theorem slab_wp (x1 : Vec F S4096x128 .i32) (i : Nat) (hi : i < 60) (f : BufTy.Contents (Elt F) arg5.view.ty)
    (G : BufTy.Contents (Elt F) arg6.view.ty) (g : BufTy.Contents (Elt F) arg7.view.ty)
    (hG : GramOk arg6 x1 128 G) (hs : SlabOk arg5 arg7 x1 i f g) :
    iprop(owns c arg5 f ∗ owns c arg6 G ∗ owns c arg7 g)
      ⊢ wp frame (wpE (defs₀ (F := F)) 𝒱 (c : Thread nD τ) bd) E (slab (F := F) arg5 arg6 arg7 i hi)
        (fun _ => iprop(owns c arg6 G ∗ ∃ f' g', owns c arg5 f' ∗ owns c arg7 g' ∗ ⌜SlabOk arg5 arg7 x1 (i + 1) f' g'⌝)) := by
  have ev : ∀ z : S128x128.Idx, arg6.view.readAt (Elt F) (⟨![i, 0], S128x128.size, ![65, 1], inb_gram i hi⟩ : LoadRect S8328x128) G z
      = pairGram x1 (z 0).val (z 0).isLt (ValueIdx.ix2 ⟨i, by omega⟩ ⟨(z 1).val, (z 1).isLt⟩) := by
    intro z
    rw [View.readAt_apply]
    refine hG _ (z 0).isLt (z 0).isLt _ _ ?_ ?_
    · rw [LoadRect.idx_apply]; simp; omega
    · rw [LoadRect.idx_apply]; simp
  unfold slab owns
  iintro ⟨H5, H6, H7⟩
  sl_exec
  sl_step
  isplitl [H6]; · iexact H6
  iexists _, _
  isplitl [H5]; · iexact H5
  isplitl [H7]; · iexact H7
  ipureintro
  constructor
  · intro y hy
    have h1 : (y 1).val < 60 := (y 1).isLt
    have h2 : (y 2).val < 256 := (y 2).isLt
    by_cases h0 : (y 0).val = i
    · by_cases hl : (y 2).val < 128
      · refine (View.read_writes_cons_unit_of_not_mem _ _ _ _ _ y rfl 2 (Or.inl (by simpa using hl))).trans ?_
        refine (View.read_writes_cons_unit_of_mem _ _ _ _ _ y (ValueIdx.ix3 (0 : Fin 1) ⟨(y 1).val, h1⟩ ⟨(y 2).val, hl⟩) rfl ?_).trans ?_
        · intro a; fin_cases a <;> simp [h0]
        · rw [pay9_at, ev]
          refine ((gramAt_eq x1 _ _ _ _ _ _ (y 2).val (y 1).val hl (by omega) (by omega) (by omega)).trans ?_).symm
          congr 2; exact Fin.ext h0
      · refine (View.read_writes_cons_unit_of_mem _ _ _ _ _ y (ValueIdx.ix3 (0 : Fin 1) ⟨(y 1).val, h1⟩ ⟨(y 2).val - 128, by omega⟩) rfl ?_).trans ?_
        · intro a; fin_cases a <;> simp [h0]; omega
        · rw [pay10_at, ev]
          refine ((gramAt_eq x1 _ _ _ _ _ _ ((y 2).val - 128) (64 + (y 1).val) (by omega) (by omega) (by omega) (by omega)).trans ?_).symm
          congr 2; exact Fin.ext h0
    · refine (View.read_writes_cons_unit_of_not_mem _ _ _ _ _ y rfl 0 (Or.inl (by simp; omega))).trans ?_
      refine (View.read_writes_cons_unit_of_not_mem _ _ _ _ _ y rfl 0 (Or.inl (by simp; omega))).trans ?_
      exact hs.1 y (by omega)
  · intro y hy
    have h2 : (y 1).val < 256 := (y 1).isLt
    by_cases h0 : (y 0).val = i
    · by_cases hl : (y 1).val < 128
      · refine (View.read_writes_cons_unit_of_not_mem _ _ _ _ _ y rfl 1 (Or.inl (by simpa using hl))).trans ?_
        refine (View.read_writes_cons_unit_of_mem _ _ _ _ _ y (ValueIdx.ix2 (0 : Fin 1) ⟨(y 1).val, hl⟩) rfl ?_).trans ?_
        · intro a; fin_cases a <;> simp [h0]
        · rw [diag_at, ev]
          refine ((gramAt_eq x1 _ _ _ _ _ _ (y 1).val i hl (by omega) (by omega) (by omega)).trans ?_).symm
          congr 2; exact Fin.ext h0
      · refine (View.read_writes_cons_unit_of_mem _ _ _ _ _ y (ValueIdx.ix2 (0 : Fin 1) ⟨(y 1).val - 128, by omega⟩) rfl ?_).trans ?_
        · intro a; fin_cases a <;> simp [h0]; omega
        · rw [diag_at, ev]
          refine ((gramAt_eq x1 _ _ _ _ _ _ ((y 1).val - 128) (64 + i) (by omega) (by omega) (by omega) (by omega)).trans ?_).symm
          congr 2; exact Fin.ext h0
    · refine (View.read_writes_cons_unit_of_not_mem _ _ _ _ _ y rfl 0 (Or.inl (by simp; omega))).trans ?_
      refine (View.read_writes_cons_unit_of_not_mem _ _ _ _ _ y rfl 0 (Or.inl (by simp; omega))).trans ?_
      exact hs.2 y (by omega)

/-- The slabs from row `60 - n` on, and then what the rest of the program makes of all of them. -/
theorem slabs_wp (x1 : Vec F S4096x128 .i32) (G : BufTy.Contents (Elt F) arg6.view.ty) (hG : GramOk arg6 x1 128 G)
    (k : Prog (TpuEff nD τ sig (Elt F) Λ₀ .tc) PUnit) (R : sProp 𝕄) (Q : PUnit → sProp 𝕄)
    (hk : ∀ f g, SlabOk arg5 arg7 x1 60 f g → iprop(owns c arg5 f ∗ owns c arg6 G ∗ owns c arg7 g ∗ R)
      ⊢ wp frame (wpE (defs₀ (F := F)) 𝒱 (c : Thread nD τ) bd) E k Q) :
    ∀ (n : Nat) (h : n ≤ 60) (f : BufTy.Contents (Elt F) arg5.view.ty) (g : BufTy.Contents (Elt F) arg7.view.ty), SlabOk arg5 arg7 x1 (60 - n) f g →
      iprop(owns c arg5 f ∗ owns c arg6 G ∗ owns c arg7 g ∗ R)
        ⊢ wp frame (wpE (defs₀ (F := F)) 𝒱 (c : Thread nD τ) bd) E (slabs (F := F) arg5 arg6 arg7 k n h) Q := by
  intro n
  induction n with
  | zero => intro h f g hs; exact hk f g hs
  | succ n ih =>
    intro h f g hs
    unfold slabs
    rw [wp_bind]
    have e : 60 - (n + 1) = 59 - n := by omega
    have hlt : 59 - n < 60 := by omega
    have hn : n ≤ 60 := by omega
    have e' : 59 - n + 1 = 60 - n := by omega
    iintro ⟨H5, H6, H7, HR⟩
    iapply (wp_wand_r frame)
    isplitl [H5 H6 H7]
    · iapply (slab_wp 𝒱 c bd E arg5 arg6 arg7 x1 (59 - n) hlt f G g hG (e ▸ hs))
      isplitl [H5]; · iexact H5
      isplitl [H6]; · iexact H6
      iexact H7
    · iintro %_ ⟨H6, ⟨%f', %g', H5, H7, %hs'⟩⟩
      iapply (ih hn f' g' (e' ▸ hs'))
      isplitl [H5]; · iexact H5
      isplitl [H6]; · iexact H6
      isplitl [H7]; · iexact H7
      iexact HR

end

end Cert.KernelIdeal.Dist

end
-- ==== Proof.Finish.lean ====
module

public import proofs.«01_k».proof.Proof.Slab
public import Idealize.ShloMosaic.Lib.VecWindow

@[expose] public section

set_option maxHeartbeats 1000000

noncomputable section

namespace Cert.KernelIdeal.Dist

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

section
variable (𝒱 : Variants) (c : Dev nD) (bd : Option 𝒱.V) (E : Set ℕ)
variable (i : grid0.Coords) (arg1 : Memref sig .tc .vmem S4096x128 .i32) (harg1 : arg1.IsWhole) (arg2 : Memref sig .tc .vmem S60x256 .f32) (harg2 : arg2.IsWhole) (arg3 : Memref sig .tc .vmem S1x256 .i32) (harg3 : arg3.IsWhole) (arg4 : Memref sig .tc .vmem S1x256 .i32) (harg4 : arg4.IsWhole) (arg5 : Memref sig .tc .vmem S60x60x256 .f32) (harg5 : arg5.IsWhole) (arg6 : Memref sig .tc .vmem S8328x128 .f32) (harg6 : arg6.IsWhole) (arg7 : Memref sig .tc .vmem S60x256 .f32) (harg7 : arg7.IsWhole)

/-- A load of a whole memref reads its contents. -/
theorem readAt_all {s : Shape} {e : EltTy} {sp : Space} {κ : Kind} (v : View sig κ sp s e) {off : Fin s.rank → ℕ} (inb : ∀ a, off a + s.size a ≤ s.size a)
    (f : v.ty.Contents (Elt F)) : v.readAt (Elt F) (Rect.unit off s.size inb).toLoadRect f = v.read (Elt F) f := by
  funext z
  rw [View.readAt_apply]
  refine congrArg _ (funext fun a => Fin.ext ?_)
  show off a + 1 * (z a).val = _
  have := inb a; omega

/-- The rows of the output block up to `k` are finished, the others still hold the slots' products. -/
def OutOk (x1 : Vec F S4096x128 .i32) (x2 : Vec F S60x256 .f32) (x3 x4 : Vec F S1x256 .i32) (k : Nat) (f : BufTy.Contents (Elt F) arg5.view.ty) : Prop :=
  ∀ y : S60x60x256.Idx, ((y 0).val < k → arg5.view.read (Elt F) f y = outBlk x1 x2 x3 x4 y)
    ∧ (k ≤ (y 0).val → arg5.view.read (Elt F) f y = gramAt x1 (y 0).val (y 1).val (y 2).val (y 0).isLt (y 1).isLt (y 2).isLt)

theorem row_trip (x1 : Vec F S4096x128 .i32) (x3 x4 : Vec F S1x256 .i32) (k : Fin k0_t2_loop.trips) (X2 : BufTy.Contents (Elt F) arg2.view.ty)
    (f : BufTy.Contents (Elt F) arg5.view.ty) (g : BufTy.Contents (Elt F) arg7.view.ty)
    (hg : arg7.view.read (Elt F) g = normBlk x1 (arg2.view.read (Elt F) X2))
    (hf : OutOk arg5 x1 (arg2.view.read (Elt F) X2) x3 x4 k.val f) :
    iprop(owns c arg2 X2 ∗ owns c arg7 g ∗ owns c arg5 f)
      ⊢ wp frame (wpE (defs₀ (F := F)) 𝒱 (c : Thread nD τ) bd) E (k0_t2_body (F := F) i arg1 harg1 arg2 harg2 arg3 harg3 arg4 harg4 arg5 harg5 arg6 harg6 arg7 harg7 (k0_pay326 x3) x4 k PUnit.unit)
        (fun _ => iprop(owns c arg2 X2 ∗ owns c arg7 g ∗ ∃ f', owns c arg5 f' ∗ ⌜OutOk arg5 x1 (arg2.view.read (Elt F) X2) x3 x4 (k.val + 1) f'⌝)) := by
  have hk : k.val < 60 := Nat.lt_of_lt_of_le k.isLt k0_t2_abs.2.1
  have e1 : arg7.view.readAt (Elt F) (Rect.unit (s := S60x256) (k0_off4 k) S1x256.size (k0_off4_inb k)).toLoadRect g = rowOf (normBlk x1 (arg2.view.read (Elt F) X2)) k.val hk := by
    funext z
    rw [View.readAt_apply, hg]
    have hz : (z 0).val = 0 := by have h : (z 0).val < 1 := (z 0).isLt; omega
    refine congrArg _ (funext fun a => Fin.ext ((idx_unit _ (k0_off4_eq k) z a).trans ?_))
    fin_cases a <;> simp [hz]
  have e2 : arg2.view.readAt (Elt F) (Rect.unit (s := S60x256) (k0_off4 k) S1x256.size (k0_off4_inb k)).toLoadRect X2 = rowOf (arg2.view.read (Elt F) X2) k.val hk := by
    funext z
    rw [View.readAt_apply]
    have hz : (z 0).val = 0 := by have h : (z 0).val < 1 := (z 0).isLt; omega
    refine congrArg _ (funext fun a => Fin.ext ((idx_unit _ (k0_off4_eq k) z a).trans ?_))
    fin_cases a <;> simp [hz]
  have e3 : arg5.view.readAt (Elt F) (Rect.unit (s := S60x60x256) (k0_off5 k) S1x60x256.size (k0_off5_inb k)).toLoadRect f
      = (fun z => gramAt x1 k.val (z 1).val (z 2).val hk (z 1).isLt (z 2).isLt : Vec F S1x60x256 .f32) := by
    funext z
    rw [View.readAt_apply]
    have hz : (z 0).val = 0 := by have h : (z 0).val < 1 := (z 0).isLt; omega
    have hi : (Rect.unit (s := S60x60x256) (k0_off5 k) S1x60x256.size (k0_off5_inb k)).toLoadRect.idx z = ValueIdx.ix3 ⟨k.val, hk⟩ ⟨(z 1).val, (z 1).isLt⟩ ⟨(z 2).val, (z 2).isLt⟩ := by
      refine funext fun a => Fin.ext ((idx_unit _ (k0_off5_eq k) z a).trans ?_)
      fin_cases a <;> simp [hz]
    rw [hi]
    exact (hf _).2 (le_refl _)
  have e4 : arg7.view.readAt (Elt F) (Rect.unit (s := S60x256) ![0, 0] S60x256.size inb_S60x256_S60x256_0_0).toLoadRect g = normBlk x1 (arg2.view.read (Elt F) X2) :=
    (readAt_all _ _ _).trans hg
  have e5 : arg2.view.readAt (Elt F) (Rect.unit (s := S60x256) ![0, 0] S60x256.size inb_S60x256_S60x256_0_0).toLoadRect X2 = arg2.view.read (Elt F) X2 :=
    readAt_all _ _ _
  unfold k0_t2_body owns
  iintro ⟨H2, H7, H5⟩
  sl_exec
  sl_step
  isplitl [H2]; · iexact H2
  isplitl [H7]; · iexact H7
  iexists _
  isplitl [H5]; · iexact H5
  ipureintro
  intro y
  have h1 : (y 1).val < 60 := (y 1).isLt
  have h2 : (y 2).val < 256 := (y 2).isLt
  by_cases h0 : (y 0).val = k.val
  · refine ⟨fun _ => ?_, fun h => absurd h (by omega)⟩
    refine (View.read_writes_cons_unit_of_mem _ _ _ _ _ y (ValueIdx.ix3 (0 : Fin 1) ⟨(y 1).val, h1⟩ ⟨(y 2).val, h2⟩) (k0_off5_eq k) ?_).trans ?_
    · intro a; fin_cases a <;> simp [h0]
    · unfold outBlk
      have hk' : k = ⟨(y 0).val, by rw [trips2]; exact (y 0).isLt⟩ := Fin.ext h0.symm
      subst hk'; rfl
  · refine ⟨fun h => ?_, fun h => ?_⟩
    · exact (View.read_writes_cons_unit_of_not_mem _ _ _ _ _ y (k0_off5_eq k) 0 (by simp <;> omega)).trans ((hf y).1 (by omega))
    · exact (View.read_writes_cons_unit_of_not_mem _ _ _ _ _ y (k0_off5_eq k) 0 (by simp <;> omega)).trans ((hf y).2 (by omega))

/-- The part after the slabs: the norms scaled, and every row of the output block finished. -/
theorem finishing_wp (x1 : Vec F S4096x128 .i32) (X2 : BufTy.Contents (Elt F) arg2.view.ty) (X3 : BufTy.Contents (Elt F) arg3.view.ty) (X4 : BufTy.Contents (Elt F) arg4.view.ty)
    (f : BufTy.Contents (Elt F) arg5.view.ty) (g : BufTy.Contents (Elt F) arg7.view.ty) (hs : SlabOk arg5 arg7 x1 60 f g) :
    iprop(owns c arg2 X2 ∗ owns c arg3 X3 ∗ owns c arg4 X4 ∗ owns c arg5 f ∗ owns c arg7 g)
      ⊢ wp frame (wpE (defs₀ (F := F)) 𝒱 (c : Thread nD τ) bd) E (finishing (F := F) i arg1 harg1 arg2 harg2 arg3 harg3 arg4 harg4 arg5 harg5 arg6 harg6 arg7 harg7)
        (fun _ => iprop(owns c arg2 X2 ∗ owns c arg3 X3 ∗ owns c arg4 X4 ∗ (∃ f', owns c arg5 f' ∗ ⌜arg5.view.read (Elt F) f' = outBlk x1 (arg2.view.read (Elt F) X2) (arg3.view.read (Elt F) X3) (arg4.view.read (Elt F) X4)⌝)
          ∗ ∃ g', owns c arg7 g')) := by
  have e2 : arg2.view.readAt (Elt F) (Rect.unit (s := S60x256) ![0, 0] S60x256.size inb_S60x256_S60x256_0_0).toLoadRect X2 = arg2.view.read (Elt F) X2 :=
    readAt_all _ _ _
  have e3 : arg3.view.readAt (Elt F) (Rect.unit (s := S1x256) ![0, 0] S1x256.size inb_S1x256_S1x256_0_0).toLoadRect X3 = arg3.view.read (Elt F) X3 :=
    readAt_all _ _ _
  have e4 : arg4.view.readAt (Elt F) (Rect.unit (s := S1x256) ![0, 0] S1x256.size inb_S1x256_S1x256_0_0).toLoadRect X4 = arg4.view.read (Elt F) X4 :=
    readAt_all _ _ _
  have e7 : arg7.view.readAt (Elt F) (Rect.unit (s := S60x256) ![0, 0] S60x256.size inb_S60x256_S60x256_0_0).toLoadRect g
      = (fun z => gramAt x1 (z 0).val (z 0).val (z 1).val (z 0).isLt (z 0).isLt (z 1).isLt : Vec F S60x256 .f32) := by
    rw [readAt_all]
    exact funext fun z => hs.2 z (z 0).isLt
  unfold finishing owns
  iintro ⟨H2, H3, H4, H5, H7⟩
  sl_exec
  have hg : arg7.view.read (Elt F) (arg7.view.writes (Elt F) arg7.view.junk (finishing_wp.sl.H7_1 arg2 x1 X2)) = normBlk x1 (arg2.view.read (Elt F) X2) :=
    View.read_writes_full _ _ _ _ _
  sl_for (fun k _ => iprop(owns c arg2 X2 ∗ owns c arg7 (arg7.view.writes (Elt F) arg7.view.junk (finishing_wp.sl.H7_1 arg2 x1 X2)) ∗ ∃ f', owns c arg5 f' ∗ ⌜OutOk arg5 x1 (arg2.view.read (Elt F) X2) (arg3.view.read (Elt F) X3) (arg4.view.read (Elt F) X4) k f'⌝)) $$ [H2 H5 H7]
  · intro k acc
    iintro ⟨H2, H7, ⟨%f', H5, %hf⟩⟩
    iapply (row_trip 𝒱 c bd E i arg1 harg1 arg2 harg2 arg3 harg3 arg4 harg4 arg5 harg5 arg6 harg6 arg7 harg7 x1 _ _ k X2 f' _ hg hf)
    isplitl [H2]; · iexact H2
    isplitl [H7]; · iexact H7
    iexact H5
  · isplitl [H2]; · iexact H2
    isplitl [H7]; · iexact H7
    iexists f
    isplitl [H5]; · iexact H5
    ipureintro
    exact fun y => ⟨fun h => absurd h (Nat.not_lt_zero _), fun _ => hs.1 y (y 0).isLt⟩
  · iintro %acc ⟨H2, H7, ⟨%f', H5, %hf⟩⟩
    sl_exec
    sl_step
    isplitl [H2]; · iexact H2
    isplitl [H3]; · iexact H3
    isplitl [H4]; · iexact H4
    isplitl [H5]
    · iexists f'
      isplitl [H5]; · iexact H5
      ipureintro
      funext y
      have h0 : (y 0).val < 60 := (y 0).isLt
      exact (hf y).1 (Nat.lt_of_lt_of_eq h0 trips2.symm)
    · iexists _
      iexact H7

/-- The first loop: every pair's products stored. -/
theorem gram_loop (X1 : BufTy.Contents (Elt F) arg1.view.ty) (G : BufTy.Contents (Elt F) arg6.view.ty) :
    iprop(owns c arg1 X1 ∗ owns c arg6 G)
      ⊢ wp frame (wpE (defs₀ (F := F)) 𝒱 (c : Thread nD τ) bd) E (Scf.Loop.for k0_t1_loop k0_t1_ok PUnit.unit (k0_t1_body (F := F) i arg1 harg1 arg2 harg2 arg3 harg3 arg4 harg4 arg5 harg5 arg6 harg6 arg7 harg7))
        (fun _ => iprop(owns c arg1 X1 ∗ ∃ G', owns c arg6 G' ∗ ⌜GramOk arg6 (arg1.view.read (Elt F) X1) 128 G'⌝)) := by
  iintro ⟨H1, H6⟩
  iapply (Scf.wp_for frame (wpE (defs₀ (F := F)) 𝒱 (c : Thread nD τ) bd) E k0_t1_loop.lb k0_t1_loop.ub k0_t1_loop.st k0_t1_ok PUnit.unit
    (k0_t1_body (F := F) i arg1 harg1 arg2 harg2 arg3 harg3 arg4 harg4 arg5 harg5 arg6 harg6 arg7 harg7)
    (fun k _ => iprop(owns c arg1 X1 ∗ ∃ G', owns c arg6 G' ∗ ⌜GramOk arg6 (arg1.view.read (Elt F) X1) k G'⌝)) (fun k acc => by
      iintro ⟨H1, ⟨%G', H6, %hG⟩⟩
      iapply (gram_trip 𝒱 c bd E i arg1 harg1 arg2 harg2 arg3 harg3 arg4 harg4 arg5 harg5 arg6 harg6 arg7 harg7 k X1 G' hG)
      isplitl [H1]; · iexact H1
      iexact H6))
  isplitl [H1 H6]
  · isplitl [H1]; · iexact H1
    iexists G
    isplitl [H6]; · iexact H6
    ipureintro
    exact fun p hp h => absurd h (Nat.not_lt_zero _)
  · iintro %acc ⟨H1, ⟨%G', H6, %hG⟩⟩
    isplitl [H1]; · iexact H1
    iexists G'
    isplitl [H6]; · iexact H6
    ipureintro
    exact fun p hp h => hG p hp (Nat.lt_of_lt_of_eq h trips1.symm)

/-- One grid point: from the four blocks it reads, the output block is `outBlk` of them; the scratch blocks end at some contents. -/
theorem body_wp (X1 : BufTy.Contents (Elt F) arg1.view.ty) (X2 : BufTy.Contents (Elt F) arg2.view.ty) (X3 : BufTy.Contents (Elt F) arg3.view.ty) (X4 : BufTy.Contents (Elt F) arg4.view.ty)
    (f : BufTy.Contents (Elt F) arg5.view.ty) (G : BufTy.Contents (Elt F) arg6.view.ty) (g : BufTy.Contents (Elt F) arg7.view.ty) :
    iprop(owns c arg1 X1 ∗ owns c arg2 X2 ∗ owns c arg3 X3 ∗ owns c arg4 X4 ∗ owns c arg5 f ∗ owns c arg6 G ∗ owns c arg7 g)
      ⊢ wp frame (wpE (defs₀ (F := F)) 𝒱 (c : Thread nD τ) bd) E (body (F := F) i arg1 harg1 arg2 harg2 arg3 harg3 arg4 harg4 arg5 harg5 arg6 harg6 arg7 harg7)
        (fun _ => iprop(owns c arg1 X1 ∗ owns c arg2 X2 ∗ owns c arg3 X3 ∗ owns c arg4 X4
          ∗ (∃ f', owns c arg5 f' ∗ ⌜arg5.view.read (Elt F) f' = outBlk (arg1.view.read (Elt F) X1) (arg2.view.read (Elt F) X2) (arg3.view.read (Elt F) X3) (arg4.view.read (Elt F) X4)⌝)
          ∗ (∃ G', owns c arg6 G') ∗ ∃ g', owns c arg7 g')) := by
  unfold body
  rw [wp_bind]
  iintro ⟨H1, H2, H3, H4, H5, H6, H7⟩
  iapply (wp_wand_r frame)
  isplitl [H1 H6]
  · iapply (gram_loop 𝒱 c bd E i arg1 harg1 arg2 harg2 arg3 harg3 arg4 harg4 arg5 harg5 arg6 harg6 arg7 harg7 X1 G)
    isplitl [H1]; · iexact H1
    iexact H6
  · iintro %acc ⟨H1, ⟨%G', H6, %hG'⟩⟩
    have hR : ∀ f g, SlabOk arg5 arg7 (arg1.view.read (Elt F) X1) 60 f g →
        iprop(owns c arg5 f ∗ owns c arg6 G' ∗ owns c arg7 g ∗ (owns c arg1 X1 ∗ owns c arg2 X2 ∗ owns c arg3 X3 ∗ owns c arg4 X4))
          ⊢ wp frame (wpE (defs₀ (F := F)) 𝒱 (c : Thread nD τ) bd) E (finishing (F := F) i arg1 harg1 arg2 harg2 arg3 harg3 arg4 harg4 arg5 harg5 arg6 harg6 arg7 harg7)
            (fun _ => iprop(owns c arg1 X1 ∗ owns c arg2 X2 ∗ owns c arg3 X3 ∗ owns c arg4 X4
              ∗ (∃ f', owns c arg5 f' ∗ ⌜arg5.view.read (Elt F) f' = outBlk (arg1.view.read (Elt F) X1) (arg2.view.read (Elt F) X2) (arg3.view.read (Elt F) X3) (arg4.view.read (Elt F) X4)⌝)
              ∗ (∃ G', owns c arg6 G') ∗ ∃ g', owns c arg7 g')) := by
      intro f g hs
      iintro ⟨H5, H6, H7, ⟨H1, H2, H3, H4⟩⟩
      iapply (wp_wand_r frame)
      isplitl [H2 H3 H4 H5 H7]
      · iapply (finishing_wp 𝒱 c bd E i arg1 harg1 arg2 harg2 arg3 harg3 arg4 harg4 arg5 harg5 arg6 harg6 arg7 harg7 _ X2 X3 X4 f g hs)
        isplitl [H2]; · iexact H2
        isplitl [H3]; · iexact H3
        isplitl [H4]; · iexact H4
        isplitl [H5]; · iexact H5
        iexact H7
      · iintro %_ ⟨H2, H3, H4, H5, H7⟩
        isplitl [H1]; · iexact H1
        isplitl [H2]; · iexact H2
        isplitl [H3]; · iexact H3
        isplitl [H4]; · iexact H4
        isplitl [H5]; · iexact H5
        isplitl [H6]
        · iexists _; iexact H6
        iexact H7
    have hmain := slabs_wp 𝒱 c bd E arg5 arg6 arg7 _ G' hG' _ _ _ hR 60 (le_refl 60) f g ⟨fun y h => absurd h (Nat.not_lt_zero _), fun y h => absurd h (Nat.not_lt_zero _)⟩
    iapply hmain
    isplitl [H5]; · iexact H5
    isplitl [H6]; · iexact H6
    isplitl [H7]; · iexact H7
    isplitl [H1]; · iexact H1
    isplitl [H2]; · iexact H2
    isplitl [H3]; · iexact H3
    iexact H4

end

end Cert.KernelIdeal.Dist

end
-- ==== Proof.Region.lean ====
module

public import proofs.«01_k».proof.Proof.Finish
public import proofs.«01_k».proof.Proof.Gen.KernelIdeal.Regions
public import proofs.«01_k».proof.Proof.Gen.KernelIdeal.Points
public import Idealize.ShloMosaic.Lib.Pipeline.RegionArraysS
public import Idealize.ShloMosaic.Lib.Pipeline.FrameBody

@[expose] public section

set_option maxHeartbeats 1000000

noncomputable section

namespace Cert.KernelIdeal.Dist

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.KernelIdeal Cert.KernelIdeal.Gen

variable {F : FTy → Type} [FloatOps F]

local notation "𝕄" => MT nD τ sig Unit (Elt F) ℕ (UR sig nD τ) ℕ

/-- A whole scratch buffer, held at some contents. -/
def scratch (c : Dev nD) (r : Ref sig .tc) : sProp 𝕄 :=
  iprop(∃ f : Buf (Elt F) ((c : Thread nD τ).loc r), ((c : Thread nD τ).loc r) ↦{fullShare} f)

/-- One grid point as the pipeline runs it: the four input blocks held, the output block and both scratch buffers at anything; the
    inputs are left as they were and the output block at `outBlk` of them. `Fr` is whatever rides along. -/
theorem step_wp (c : Dev nD) (i : grid0.Coords) (arg1 : Memref sig .tc .vmem S4096x128 .i32) (harg1 : arg1.IsWhole) (arg2 : Memref sig .tc .vmem S60x256 .f32) (harg2 : arg2.IsWhole)
    (arg3 : Memref sig .tc .vmem S1x256 .i32) (harg3 : arg3.IsWhole) (arg4 : Memref sig .tc .vmem S1x256 .i32) (harg4 : arg4.IsWhole)
    (arg5 : Memref sig .tc .vmem S60x60x256 .f32) (harg5 : arg5.IsWhole) (arg6 : Memref sig .tc .vmem S8328x128 .f32) (harg6 : arg6.IsWhole) (arg7 : Memref sig .tc .vmem S60x256 .f32) (harg7 : arg7.IsWhole)
    (r6 r7 : Ref sig .tc)
    (h6 : (scratch (F := F) c r6) = iprop(∃ f, owns c arg6 f)) (h7 : (scratch (F := F) c r7) = iprop(∃ f, owns c arg7 f))
    (x1 : S4096x128.Idx → Elt F .i32) (x2 : S60x256.Idx → Elt F .f32) (x3 x4 : S1x256.Idx → Elt F .i32) (Fr : sProp 𝕄) :
    iprop(((scratch c r6 ∗ scratch c r7) ∗ Fr)
        ∗ Idealize.ShloMosaic.owns (c : Thread nD τ) arg1 fullShare x1 ∗ Idealize.ShloMosaic.owns (c : Thread nD τ) arg2 fullShare x2
        ∗ Idealize.ShloMosaic.owns (c : Thread nD τ) arg3 fullShare x3 ∗ Idealize.ShloMosaic.owns (c : Thread nD τ) arg4 fullShare x4
        ∗ ∃ d, Idealize.ShloMosaic.owns (c : Thread nD τ) arg5 fullShare d)
      ⊢ wp frame (wpE (defs₀ (F := F)) Variants.none (c : Thread nD τ) none) Set.univ (body (F := F) i arg1 harg1 arg2 harg2 arg3 harg3 arg4 harg4 arg5 harg5 arg6 harg6 arg7 harg7)
        (fun _ => iprop(((scratch c r6 ∗ scratch c r7) ∗ Fr)
          ∗ Idealize.ShloMosaic.owns (c : Thread nD τ) arg1 fullShare x1 ∗ Idealize.ShloMosaic.owns (c : Thread nD τ) arg2 fullShare x2
          ∗ Idealize.ShloMosaic.owns (c : Thread nD τ) arg3 fullShare x3 ∗ Idealize.ShloMosaic.owns (c : Thread nD τ) arg4 fullShare x4
          ∗ Idealize.ShloMosaic.owns (c : Thread nD τ) arg5 fullShare (outBlk x1 x2 x3 x4))) := by
  rw [h6, h7]
  unfold Idealize.ShloMosaic.owns
  iintro ⟨⟨⟨⟨%G, H6⟩, ⟨%g, H7⟩⟩, HF⟩, ⟨%X1, %e1, H1⟩, ⟨%X2, %e2, H2⟩, ⟨%X3, %e3, H3⟩, ⟨%X4, %e4, H4⟩, ⟨%d, %f, %e5, H5⟩⟩
  iapply (wp_wand_r frame)
  isplitl [H1 H2 H3 H4 H5 H6 H7]
  · iapply (body_wp Variants.none c none Set.univ i arg1 harg1 arg2 harg2 arg3 harg3 arg4 harg4 arg5 harg5 arg6 harg6 arg7 harg7 X1 X2 X3 X4 f G g)
    isplitl [H1]; · iexact H1
    isplitl [H2]; · iexact H2
    isplitl [H3]; · iexact H3
    isplitl [H4]; · iexact H4
    isplitl [H5]; · iexact H5
    isplitl [H6]; · iexact H6
    iexact H7
  · iintro %_ ⟨H1, H2, H3, H4, ⟨%f', H5, %e5'⟩, ⟨%G', H6⟩, ⟨%g', H7⟩⟩
    isplitl [H6 H7 HF]
    · isplitl [H6 H7]
      · isplitl [H6]
        · iexists G'; iexact H6
        · iexists g'; iexact H7
      · iexact HF
    isplitl [H1]
    · iexists X1; isplitr; · ipureintro; exact e1
      iexact H1
    isplitl [H2]
    · iexists X2; isplitr; · ipureintro; exact e2
      iexact H2
    isplitl [H3]
    · iexists X3; isplitr; · ipureintro; exact e3
      iexact H3
    isplitl [H4]
    · iexists X4; isplitr; · ipureintro; exact e4
      iexact H4
    iexists f'; isplitr
    · ipureintro; rw [e5', e1, e2, e3, e4]
    iexact H5

/-! ## Call 0 -/

/-- Window `w`'s block at point `t`, read off its array as the call finds it. -/
def iblk0 (V : Valuation τ sig (Elt F)) (w : Fin cfg0.W) (t : Fin cfg0.N) : ((cfg0.win w).xblock (cfg0.grid.coords t)).Idx → Elt F (cfg0.win w).elt :=
  ((cfg0.win w).blk t).view.read (Elt F) (V (Proc.devRef .tc (Pipeline.arrRef spec0 w)))

/-- What call 0 does, entered at the contents `V`: the inputs stay, the output block of each point is `outBlk` of the point's input blocks. -/
def dat0 (V : Valuation τ sig (Elt F)) (c : Dev nD) : Dat τ (Elt F) Unit ℕ (UR sig nD τ) ℕ cfg0 c where
  A w := V (Proc.devRef .tc (Pipeline.arrRef spec0 w))
  after w t := match w with
    | ⟨0, _⟩ => iblk0 V 0 t
    | ⟨1, _⟩ => iblk0 V 1 t
    | ⟨2, _⟩ => iblk0 V 2 t
    | ⟨3, _⟩ => iblk0 V 3 t
    | ⟨4, _⟩ => outBlk (iblk0 V 0 t) (iblk0 V 1 t) (iblk0 V 2 t) (iblk0 V 3 t)
  Φ _ := Pipeline.scopedRest spec0 c
  q _ := fullShare
  owed _ := 0

/-- The body of call 0, run at any grid step, does what `dat0` says of it. -/
theorem dat0_body (V : Valuation τ sig (Elt F)) (c : Dev nD) : BodyObligation (dat0 V c) (defs₀ (F := F)) Variants.none () Set.univ := fun t => by
  have hb0 : ∀ d, (dat0 V c).before 0 t d = iblk0 V 0 t := fun d => (dat0 V c).before_in_eq_fetched 0 rfl (fun _ => rfl) (fun _ _ _ => rfl) (fun t => rfl) t d
  have hb1 : ∀ d, (dat0 V c).before 1 t d = iblk0 V 1 t := fun d => (dat0 V c).before_in_eq_fetched 1 rfl (fun _ => rfl) (fun _ _ _ => rfl) (fun t => rfl) t d
  have hb2 : ∀ d, (dat0 V c).before 2 t d = iblk0 V 2 t := fun d => (dat0 V c).before_in_eq_fetched 2 rfl (fun _ => rfl) (fun _ _ _ => rfl) (fun t => rfl) t d
  have hb3 : ∀ d, (dat0 V c).before 3 t d = iblk0 V 3 t := fun d => (dat0 V c).before_in_eq_fetched 3 rfl (fun _ => rfl) (fun _ _ _ => rfl) (fun t => rfl) t d
  have ha0 : (dat0 V c).after 0 t = iblk0 V 0 t := by dsimp only [dat0]
  have ha1 : (dat0 V c).after 1 t = iblk0 V 1 t := by dsimp only [dat0]
  have ha2 : (dat0 V c).after 2 t = iblk0 V 2 t := by dsimp only [dat0]
  have ha3 : (dat0 V c).after 3 t = iblk0 V 3 t := by dsimp only [dat0]
  have ha4 : (dat0 V c).after 4 t = outBlk (iblk0 V 0 t) (iblk0 V 1 t) (iblk0 V 2 t) (iblk0 V 3 t) := by dsimp only [dat0]
  have hrow : defs₀ (F := F) .tc cfg0.body (cfg0.bodyArgs t (cfg0.slots t)) = bodyAt0 t := by
    unfold defs₀; rw [Defs.onTc_tc]
  rw [bigSep_W0, bigSep_W0, hrow]
  refine triple_restated (step_wp c (grid0.coords t) _ _ _ _ _ _ _ _ _ _ _ _ _ _ cc0_scratch0 cc0_scratch1 ?_ ?_ (iblk0 V 0 t) (iblk0 V 1 t) (iblk0 V 2 t) (iblk0 V 3 t)
    iprop(Pipeline.scopedRestBut spec0 c [cc0_scratch0, cc0_scratch1] ∗ (dat0 V c).owesAt () t.castSucc)) (congrArg _ (cc0_eq ..).symm) ?_ fun _ => ?_
  · unfold scratch owns; rw [Memref.view_whole, View.set_whole]
  · unfold scratch owns; rw [Memref.view_whole, View.set_whole]
  · show iprop(Pipeline.scopedRest spec0 c ∗ (dat0 V c).owesAt () t.castSucc ∗ _) ⊢ _
    rw [scopedRest0_split]
    dsimp only
    simp only [hb0, hb1, hb2, hb3]
    iintro ⟨⟨HS, HR⟩, HO, ⟨%d0, H0⟩, ⟨%d1, H1⟩, ⟨%d2, H2⟩, ⟨%d3, H3⟩, ⟨%d4, H4⟩⟩
    isplitl [HS HR HO]
    · isplitl [HS]; · iexact HS
      isplitl [HR]; · iexact HR
      iexact HO
    isplitl [H0]; · iexact H0
    isplitl [H1]; · iexact H1
    isplitl [H2]; · iexact H2
    isplitl [H3]; · iexact H3
    iexists ((dat0 V c).before 4 t d4); iexact H4
  · show _ ⊢ iprop((dat0 V c).Φ t.succ ∗ (dat0 V c).owesAt () t.succ
      ∗ Idealize.ShloMosaic.owns (c : Thread nD τ) (st0_0 t) fullShare ((dat0 V c).after 0 t) ∗ Idealize.ShloMosaic.owns (c : Thread nD τ) (st0_1 t) fullShare ((dat0 V c).after 1 t)
      ∗ Idealize.ShloMosaic.owns (c : Thread nD τ) (st0_2 t) fullShare ((dat0 V c).after 2 t) ∗ Idealize.ShloMosaic.owns (c : Thread nD τ) (st0_3 t) fullShare ((dat0 V c).after 3 t)
      ∗ Idealize.ShloMosaic.owns (c : Thread nD τ) (st0_4 t) fullShare ((dat0 V c).after 4 t))
    rw [show (dat0 V c).Φ t.succ = Pipeline.scopedRest spec0 c from rfl, show (dat0 V c).owesAt () t.succ = (dat0 V c).owesAt () t.castSucc from rfl,
      ha0, ha1, ha2, ha3, ha4, scopedRest0_split]
    iintro ⟨⟨HS, HR, HO⟩, H⟩
    isplitl [HS HR]
    · isplitl [HS]; · iexact HS
      iexact HR
    isplitl [HO]; · iexact HO
    iexact H

/-! ## Call 1 -/

/-- Window `w`'s block at point `t`, read off its array as the call finds it. -/
def iblk1 (V : Valuation τ sig (Elt F)) (w : Fin cfg1.W) (t : Fin cfg1.N) : ((cfg1.win w).xblock (cfg1.grid.coords t)).Idx → Elt F (cfg1.win w).elt :=
  ((cfg1.win w).blk t).view.read (Elt F) (V (Proc.devRef .tc (Pipeline.arrRef spec1 w)))

/-- What call 1 does, entered at the contents `V`: the inputs stay, the output block of each point is `outBlk` of the point's input blocks. -/
def dat1 (V : Valuation τ sig (Elt F)) (c : Dev nD) : Dat τ (Elt F) Unit ℕ (UR sig nD τ) ℕ cfg1 c where
  A w := V (Proc.devRef .tc (Pipeline.arrRef spec1 w))
  after w t := match w with
    | ⟨0, _⟩ => iblk1 V 0 t
    | ⟨1, _⟩ => iblk1 V 1 t
    | ⟨2, _⟩ => iblk1 V 2 t
    | ⟨3, _⟩ => iblk1 V 3 t
    | ⟨4, _⟩ => outBlk (iblk1 V 0 t) (iblk1 V 1 t) (iblk1 V 2 t) (iblk1 V 3 t)
  Φ _ := Pipeline.scopedRest spec1 c
  q _ := fullShare
  owed _ := 0

/-- The body of call 1, run at any grid step, does what `dat1` says of it. -/
theorem dat1_body (V : Valuation τ sig (Elt F)) (c : Dev nD) : BodyObligation (dat1 V c) (defs₀ (F := F)) Variants.none () Set.univ := fun t => by
  have hb0 : ∀ d, (dat1 V c).before 0 t d = iblk1 V 0 t := fun d => (dat1 V c).before_in_eq_fetched 0 rfl (fun _ => rfl) (fun _ _ _ => rfl) (fun t => rfl) t d
  have hb1 : ∀ d, (dat1 V c).before 1 t d = iblk1 V 1 t := fun d => (dat1 V c).before_in_eq_fetched 1 rfl (fun _ => rfl) (fun _ _ _ => rfl) (fun t => rfl) t d
  have hb2 : ∀ d, (dat1 V c).before 2 t d = iblk1 V 2 t := fun d => (dat1 V c).before_in_eq_fetched 2 rfl (fun _ => rfl) (fun _ _ _ => rfl) (fun t => rfl) t d
  have hb3 : ∀ d, (dat1 V c).before 3 t d = iblk1 V 3 t := fun d => (dat1 V c).before_in_eq_fetched 3 rfl (fun _ => rfl) (fun _ _ _ => rfl) (fun t => rfl) t d
  have ha0 : (dat1 V c).after 0 t = iblk1 V 0 t := by dsimp only [dat1]
  have ha1 : (dat1 V c).after 1 t = iblk1 V 1 t := by dsimp only [dat1]
  have ha2 : (dat1 V c).after 2 t = iblk1 V 2 t := by dsimp only [dat1]
  have ha3 : (dat1 V c).after 3 t = iblk1 V 3 t := by dsimp only [dat1]
  have ha4 : (dat1 V c).after 4 t = outBlk (iblk1 V 0 t) (iblk1 V 1 t) (iblk1 V 2 t) (iblk1 V 3 t) := by dsimp only [dat1]
  have hrow : defs₀ (F := F) .tc cfg1.body (cfg1.bodyArgs t (cfg1.slots t)) = bodyAt1 t := by
    unfold defs₀; rw [Defs.onTc_tc]
  rw [bigSep_W1, bigSep_W1, hrow]
  refine triple_restated (step_wp c (grid1.coords t) _ _ _ _ _ _ _ _ _ _ _ _ _ _ cc1_scratch0 cc1_scratch1 ?_ ?_ (iblk1 V 0 t) (iblk1 V 1 t) (iblk1 V 2 t) (iblk1 V 3 t)
    iprop(Pipeline.scopedRestBut spec1 c [cc1_scratch0, cc1_scratch1] ∗ (dat1 V c).owesAt () t.castSucc)) (congrArg _ (cc1_eq ..).symm) ?_ fun _ => ?_
  · unfold scratch owns; rw [Memref.view_whole, View.set_whole]
  · unfold scratch owns; rw [Memref.view_whole, View.set_whole]
  · show iprop(Pipeline.scopedRest spec1 c ∗ (dat1 V c).owesAt () t.castSucc ∗ _) ⊢ _
    rw [scopedRest1_split]
    dsimp only
    simp only [hb0, hb1, hb2, hb3]
    iintro ⟨⟨HS, HR⟩, HO, ⟨%d0, H0⟩, ⟨%d1, H1⟩, ⟨%d2, H2⟩, ⟨%d3, H3⟩, ⟨%d4, H4⟩⟩
    isplitl [HS HR HO]
    · isplitl [HS]; · iexact HS
      isplitl [HR]; · iexact HR
      iexact HO
    isplitl [H0]; · iexact H0
    isplitl [H1]; · iexact H1
    isplitl [H2]; · iexact H2
    isplitl [H3]; · iexact H3
    iexists ((dat1 V c).before 4 t d4); iexact H4
  · show _ ⊢ iprop((dat1 V c).Φ t.succ ∗ (dat1 V c).owesAt () t.succ
      ∗ Idealize.ShloMosaic.owns (c : Thread nD τ) (st1_0 t) fullShare ((dat1 V c).after 0 t) ∗ Idealize.ShloMosaic.owns (c : Thread nD τ) (st1_1 t) fullShare ((dat1 V c).after 1 t)
      ∗ Idealize.ShloMosaic.owns (c : Thread nD τ) (st1_2 t) fullShare ((dat1 V c).after 2 t) ∗ Idealize.ShloMosaic.owns (c : Thread nD τ) (st1_3 t) fullShare ((dat1 V c).after 3 t)
      ∗ Idealize.ShloMosaic.owns (c : Thread nD τ) (st1_4 t) fullShare ((dat1 V c).after 4 t))
    rw [show (dat1 V c).Φ t.succ = Pipeline.scopedRest spec1 c from rfl, show (dat1 V c).owesAt () t.succ = (dat1 V c).owesAt () t.castSucc from rfl,
      ha0, ha1, ha2, ha3, ha4, scopedRest1_split]
    iintro ⟨⟨HS, HR, HO⟩, H⟩
    isplitl [HS HR]
    · isplitl [HS]; · iexact HS
      iexact HR
    isplitl [HO]; · iexact HO
    iexact H

/-! ## Call 2 -/

/-- Window `w`'s block at point `t`, read off its array as the call finds it. -/
def iblk2 (V : Valuation τ sig (Elt F)) (w : Fin cfg2.W) (t : Fin cfg2.N) : ((cfg2.win w).xblock (cfg2.grid.coords t)).Idx → Elt F (cfg2.win w).elt :=
  ((cfg2.win w).blk t).view.read (Elt F) (V (Proc.devRef .tc (Pipeline.arrRef spec2 w)))

/-- What call 2 does, entered at the contents `V`: the inputs stay, the output block of each point is `outBlk` of the point's input blocks. -/
def dat2 (V : Valuation τ sig (Elt F)) (c : Dev nD) : Dat τ (Elt F) Unit ℕ (UR sig nD τ) ℕ cfg2 c where
  A w := V (Proc.devRef .tc (Pipeline.arrRef spec2 w))
  after w t := match w with
    | ⟨0, _⟩ => iblk2 V 0 t
    | ⟨1, _⟩ => iblk2 V 1 t
    | ⟨2, _⟩ => iblk2 V 2 t
    | ⟨3, _⟩ => iblk2 V 3 t
    | ⟨4, _⟩ => outBlk (iblk2 V 0 t) (iblk2 V 1 t) (iblk2 V 2 t) (iblk2 V 3 t)
  Φ _ := Pipeline.scopedRest spec2 c
  q _ := fullShare
  owed _ := 0

/-- The body of call 2, run at any grid step, does what `dat2` says of it. -/
theorem dat2_body (V : Valuation τ sig (Elt F)) (c : Dev nD) : BodyObligation (dat2 V c) (defs₀ (F := F)) Variants.none () Set.univ := fun t => by
  have hb0 : ∀ d, (dat2 V c).before 0 t d = iblk2 V 0 t := fun d => (dat2 V c).before_in_eq_fetched 0 rfl (fun _ => rfl) (fun _ _ _ => rfl) (fun t => rfl) t d
  have hb1 : ∀ d, (dat2 V c).before 1 t d = iblk2 V 1 t := fun d => (dat2 V c).before_in_eq_fetched 1 rfl (fun _ => rfl) (fun _ _ _ => rfl) (fun t => rfl) t d
  have hb2 : ∀ d, (dat2 V c).before 2 t d = iblk2 V 2 t := fun d => (dat2 V c).before_in_eq_fetched 2 rfl (fun _ => rfl) (fun _ _ _ => rfl) (fun t => rfl) t d
  have hb3 : ∀ d, (dat2 V c).before 3 t d = iblk2 V 3 t := fun d => (dat2 V c).before_in_eq_fetched 3 rfl (fun _ => rfl) (fun _ _ _ => rfl) (fun t => rfl) t d
  have ha0 : (dat2 V c).after 0 t = iblk2 V 0 t := by dsimp only [dat2]
  have ha1 : (dat2 V c).after 1 t = iblk2 V 1 t := by dsimp only [dat2]
  have ha2 : (dat2 V c).after 2 t = iblk2 V 2 t := by dsimp only [dat2]
  have ha3 : (dat2 V c).after 3 t = iblk2 V 3 t := by dsimp only [dat2]
  have ha4 : (dat2 V c).after 4 t = outBlk (iblk2 V 0 t) (iblk2 V 1 t) (iblk2 V 2 t) (iblk2 V 3 t) := by dsimp only [dat2]
  have hrow : defs₀ (F := F) .tc cfg2.body (cfg2.bodyArgs t (cfg2.slots t)) = bodyAt2 t := by
    unfold defs₀; rw [Defs.onTc_tc]
  rw [bigSep_W2, bigSep_W2, hrow]
  refine triple_restated (step_wp c (grid2.coords t) _ _ _ _ _ _ _ _ _ _ _ _ _ _ cc2_scratch0 cc2_scratch1 ?_ ?_ (iblk2 V 0 t) (iblk2 V 1 t) (iblk2 V 2 t) (iblk2 V 3 t)
    iprop(Pipeline.scopedRestBut spec2 c [cc2_scratch0, cc2_scratch1] ∗ (dat2 V c).owesAt () t.castSucc)) (congrArg _ (cc2_eq ..).symm) ?_ fun _ => ?_
  · unfold scratch owns; rw [Memref.view_whole, View.set_whole]
  · unfold scratch owns; rw [Memref.view_whole, View.set_whole]
  · show iprop(Pipeline.scopedRest spec2 c ∗ (dat2 V c).owesAt () t.castSucc ∗ _) ⊢ _
    rw [scopedRest2_split]
    dsimp only
    simp only [hb0, hb1, hb2, hb3]
    iintro ⟨⟨HS, HR⟩, HO, ⟨%d0, H0⟩, ⟨%d1, H1⟩, ⟨%d2, H2⟩, ⟨%d3, H3⟩, ⟨%d4, H4⟩⟩
    isplitl [HS HR HO]
    · isplitl [HS]; · iexact HS
      isplitl [HR]; · iexact HR
      iexact HO
    isplitl [H0]; · iexact H0
    isplitl [H1]; · iexact H1
    isplitl [H2]; · iexact H2
    isplitl [H3]; · iexact H3
    iexists ((dat2 V c).before 4 t d4); iexact H4
  · show _ ⊢ iprop((dat2 V c).Φ t.succ ∗ (dat2 V c).owesAt () t.succ
      ∗ Idealize.ShloMosaic.owns (c : Thread nD τ) (st2_0 t) fullShare ((dat2 V c).after 0 t) ∗ Idealize.ShloMosaic.owns (c : Thread nD τ) (st2_1 t) fullShare ((dat2 V c).after 1 t)
      ∗ Idealize.ShloMosaic.owns (c : Thread nD τ) (st2_2 t) fullShare ((dat2 V c).after 2 t) ∗ Idealize.ShloMosaic.owns (c : Thread nD τ) (st2_3 t) fullShare ((dat2 V c).after 3 t)
      ∗ Idealize.ShloMosaic.owns (c : Thread nD τ) (st2_4 t) fullShare ((dat2 V c).after 4 t))
    rw [show (dat2 V c).Φ t.succ = Pipeline.scopedRest spec2 c from rfl, show (dat2 V c).owesAt () t.succ = (dat2 V c).owesAt () t.castSucc from rfl,
      ha0, ha1, ha2, ha3, ha4, scopedRest2_split]
    iintro ⟨⟨HS, HR, HO⟩, H⟩
    isplitl [HS HR]
    · isplitl [HS]; · iexact HS
      iexact HR
    isplitl [HO]; · iexact HO
    iexact H

/-! ## Call 3 -/

/-- Window `w`'s block at point `t`, read off its array as the call finds it. -/
def iblk3 (V : Valuation τ sig (Elt F)) (w : Fin cfg3.W) (t : Fin cfg3.N) : ((cfg3.win w).xblock (cfg3.grid.coords t)).Idx → Elt F (cfg3.win w).elt :=
  ((cfg3.win w).blk t).view.read (Elt F) (V (Proc.devRef .tc (Pipeline.arrRef spec3 w)))

/-- What call 3 does, entered at the contents `V`: the inputs stay, the output block of each point is `outBlk` of the point's input blocks. -/
def dat3 (V : Valuation τ sig (Elt F)) (c : Dev nD) : Dat τ (Elt F) Unit ℕ (UR sig nD τ) ℕ cfg3 c where
  A w := V (Proc.devRef .tc (Pipeline.arrRef spec3 w))
  after w t := match w with
    | ⟨0, _⟩ => iblk3 V 0 t
    | ⟨1, _⟩ => iblk3 V 1 t
    | ⟨2, _⟩ => iblk3 V 2 t
    | ⟨3, _⟩ => iblk3 V 3 t
    | ⟨4, _⟩ => outBlk (iblk3 V 0 t) (iblk3 V 1 t) (iblk3 V 2 t) (iblk3 V 3 t)
  Φ _ := Pipeline.scopedRest spec3 c
  q _ := fullShare
  owed _ := 0

/-- The body of call 3, run at any grid step, does what `dat3` says of it. -/
theorem dat3_body (V : Valuation τ sig (Elt F)) (c : Dev nD) : BodyObligation (dat3 V c) (defs₀ (F := F)) Variants.none () Set.univ := fun t => by
  have hb0 : ∀ d, (dat3 V c).before 0 t d = iblk3 V 0 t := fun d => (dat3 V c).before_in_eq_fetched 0 rfl (fun _ => rfl) (fun _ _ _ => rfl) (fun t => rfl) t d
  have hb1 : ∀ d, (dat3 V c).before 1 t d = iblk3 V 1 t := fun d => (dat3 V c).before_in_eq_fetched 1 rfl (fun _ => rfl) (fun _ _ _ => rfl) (fun t => rfl) t d
  have hb2 : ∀ d, (dat3 V c).before 2 t d = iblk3 V 2 t := fun d => (dat3 V c).before_in_eq_fetched 2 rfl (fun _ => rfl) (fun _ _ _ => rfl) (fun t => rfl) t d
  have hb3 : ∀ d, (dat3 V c).before 3 t d = iblk3 V 3 t := fun d => (dat3 V c).before_in_eq_fetched 3 rfl (fun _ => rfl) (fun _ _ _ => rfl) (fun t => rfl) t d
  have ha0 : (dat3 V c).after 0 t = iblk3 V 0 t := by dsimp only [dat3]
  have ha1 : (dat3 V c).after 1 t = iblk3 V 1 t := by dsimp only [dat3]
  have ha2 : (dat3 V c).after 2 t = iblk3 V 2 t := by dsimp only [dat3]
  have ha3 : (dat3 V c).after 3 t = iblk3 V 3 t := by dsimp only [dat3]
  have ha4 : (dat3 V c).after 4 t = outBlk (iblk3 V 0 t) (iblk3 V 1 t) (iblk3 V 2 t) (iblk3 V 3 t) := by dsimp only [dat3]
  have hrow : defs₀ (F := F) .tc cfg3.body (cfg3.bodyArgs t (cfg3.slots t)) = bodyAt3 t := by
    unfold defs₀; rw [Defs.onTc_tc]
  rw [bigSep_W3, bigSep_W3, hrow]
  refine triple_restated (step_wp c (grid3.coords t) _ _ _ _ _ _ _ _ _ _ _ _ _ _ cc3_scratch0 cc3_scratch1 ?_ ?_ (iblk3 V 0 t) (iblk3 V 1 t) (iblk3 V 2 t) (iblk3 V 3 t)
    iprop(Pipeline.scopedRestBut spec3 c [cc3_scratch0, cc3_scratch1] ∗ (dat3 V c).owesAt () t.castSucc)) (congrArg _ (cc3_eq ..).symm) ?_ fun _ => ?_
  · unfold scratch owns; rw [Memref.view_whole, View.set_whole]
  · unfold scratch owns; rw [Memref.view_whole, View.set_whole]
  · show iprop(Pipeline.scopedRest spec3 c ∗ (dat3 V c).owesAt () t.castSucc ∗ _) ⊢ _
    rw [scopedRest3_split]
    dsimp only
    simp only [hb0, hb1, hb2, hb3]
    iintro ⟨⟨HS, HR⟩, HO, ⟨%d0, H0⟩, ⟨%d1, H1⟩, ⟨%d2, H2⟩, ⟨%d3, H3⟩, ⟨%d4, H4⟩⟩
    isplitl [HS HR HO]
    · isplitl [HS]; · iexact HS
      isplitl [HR]; · iexact HR
      iexact HO
    isplitl [H0]; · iexact H0
    isplitl [H1]; · iexact H1
    isplitl [H2]; · iexact H2
    isplitl [H3]; · iexact H3
    iexists ((dat3 V c).before 4 t d4); iexact H4
  · show _ ⊢ iprop((dat3 V c).Φ t.succ ∗ (dat3 V c).owesAt () t.succ
      ∗ Idealize.ShloMosaic.owns (c : Thread nD τ) (st3_0 t) fullShare ((dat3 V c).after 0 t) ∗ Idealize.ShloMosaic.owns (c : Thread nD τ) (st3_1 t) fullShare ((dat3 V c).after 1 t)
      ∗ Idealize.ShloMosaic.owns (c : Thread nD τ) (st3_2 t) fullShare ((dat3 V c).after 2 t) ∗ Idealize.ShloMosaic.owns (c : Thread nD τ) (st3_3 t) fullShare ((dat3 V c).after 3 t)
      ∗ Idealize.ShloMosaic.owns (c : Thread nD τ) (st3_4 t) fullShare ((dat3 V c).after 4 t))
    rw [show (dat3 V c).Φ t.succ = Pipeline.scopedRest spec3 c from rfl, show (dat3 V c).owesAt () t.succ = (dat3 V c).owesAt () t.castSucc from rfl,
      ha0, ha1, ha2, ha3, ha4, scopedRest3_split]
    iintro ⟨⟨HS, HR, HO⟩, H⟩
    isplitl [HS HR]
    · isplitl [HS]; · iexact HS
      iexact HR
    isplitl [HO]; · iexact HO
    iexact H

end Cert.KernelIdeal.Dist
-- ==== Proof.Run.lean ====
module

public import proofs.«01_k».proof.Proof.Region

@[expose] public section

set_option maxHeartbeats 1000000

noncomputable section

namespace Cert.KernelIdeal.Dist

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation Seg HostSeg RegionSeg afterRegion)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers between the items of the program

`Wj c`: every buffer of core `c` after item `j − 1`; the even ones (but 0) follow a kernel call, the odd ones host operations. -/

/-- Memory as the run finds it. -/
def W0 (c : Dev nD) : Valuation τ sig (Elt F) := fun b => m (c, b)
/-- Memory after the host operations before call 0. -/
def W1 (c : Dev nD) : Valuation τ sig (Elt F) := StableHlo.after hostOps0 (W0 m c)
/-- Memory after call 0. -/
def W2 (c : Dev nD) : Valuation τ sig (Elt F) := afterRegion (dat0 (W1 m c) c) (W1 m c)
/-- Memory after the host operations that follow call 0. -/
def W3 (c : Dev nD) : Valuation τ sig (Elt F) := StableHlo.after hostOps1 (W2 m c)
/-- Memory after call 1. -/
def W4 (c : Dev nD) : Valuation τ sig (Elt F) := afterRegion (dat1 (W3 m c) c) (W3 m c)
/-- Memory after the host operations that follow call 1. -/
def W5 (c : Dev nD) : Valuation τ sig (Elt F) := StableHlo.after hostOps2 (W4 m c)
/-- Memory after call 2. -/
def W6 (c : Dev nD) : Valuation τ sig (Elt F) := afterRegion (dat2 (W5 m c) c) (W5 m c)
/-- Memory after the host operations that follow call 2. -/
def W7 (c : Dev nD) : Valuation τ sig (Elt F) := StableHlo.after hostOps3 (W6 m c)
/-- Memory after call 3. -/
def W8 (c : Dev nD) : Valuation τ sig (Elt F) := afterRegion (dat3 (W7 m c) c) (W7 m c)
/-- Memory after the host operations that follow call 3. -/
def W9 (c : Dev nD) : Valuation τ sig (Elt F) := StableHlo.after hostOps4 (W8 m c)

/-- The four calls' proof data, each from the buffers it is entered with. -/
def pdats : (p : Fin 4) → (c : Dev nD) → Dat τ (Elt F) Unit ℕ (UR sig nD τ) ℕ (cfgs p) c
  | ⟨0, _⟩, c => dat0 (W1 m c) c
  | ⟨1, _⟩, c => dat1 (W3 m c) c
  | ⟨2, _⟩, c => dat2 (W5 m c) c
  | ⟨3, _⟩, c => dat3 (W7 m c) c

/-- No core owes another anything: one level for every semaphore of a TensorCore. -/
abbrev L : GSem nD τ sig → Finset Unit := fun g => if g.1.2 = .tc then {()} else ∅
abbrev lv : GSem nD τ sig → Unit → ℕ := fun _ _ => 0

/-- What rides beside the buffers: the core owing nothing. -/
abbrev R (c : Dev nD) : sProp 𝕄 := iprop((∃ W, owes (c : Thread nD τ) (0 : CellTallies nD τ sig Unit) W) ∗ emp ∗ emp)

/-- A call as a segment of the program, from the buffers `V` it is entered with. -/
def reg (p : Fin 4) (kit : Pipeline.LaunchFacts (nD := nD) (τ := τ) cfgs p) (V : Dev nD → Valuation τ sig (Elt F))
    (hbody : ∀ c, BodyObligation (pdats m p c) (defs₀ (F := F)) Variants.none () Set.univ)
    (howed : ∀ c t, (pdats m p c).owed t = 0) (hrec : ∀ c, (pdats m p c).recorded 0 = Set.univ) (hq : ∀ c w, (pdats m p c).q w = fullShare)
    (hΦ : ∀ c t, (pdats m p c).Φ t = Pipeline.scopedRest (cfgs p).spec c)
    (hA : ∀ c w, (pdats m p c).A w = V c (Proc.devRef .tc (Pipeline.arrRef (cfgs p).spec w))) :
    RegionSeg (pcfgs (F := F)) adm (pdats m) () defs₀ Variants.none L lv p :=
  RegionSeg.ofHeldIn (pcfgs (F := F)) adm (pdats m) () defs₀ Variants.none L lv p (fun _ => 0) (Pipeline.ucRefs τ sig)
    (fun _ => iprop(emp)) (fun _ => iprop(emp)) kit.toP rfl (fun c => (hbody c).loose) howed hrec (fun c => (pdats m p c).share_full (hq c))
    (fun c => by rw [hΦ]; iintro ⟨H, -⟩; iexact H) (fun c => by rw [hΦ]; iintro H; isplitl [H]; · iexact H
                                                                iempintro)
    (fun _ => 0) ⟨fun c _ _ => by rw [L, if_pos rfl]; exact Finset.mem_singleton_self _, fun _ _ _ => le_rfl, fun _ _ _ h => absurd h (lt_irrefl 0)⟩ (fun _ => iprop(emp)) V hA

/-- Call 0 as a segment of the run. -/
def reg0 : RegionSeg (pcfgs (F := F)) adm (pdats m) () defs₀ Variants.none L lv 0 :=
  reg m 0 launch0 (W1 m) (fun c => dat0_body (W1 m c) c) (fun _ _ => rfl) (fun _ => rfl) (fun _ _ => rfl) (fun _ _ => rfl) fun _ _ => rfl
/-- Call 1 as a segment of the run. -/
def reg1 : RegionSeg (pcfgs (F := F)) adm (pdats m) () defs₀ Variants.none L lv 1 :=
  reg m 1 launch1 (W3 m) (fun c => dat1_body (W3 m c) c) (fun _ _ => rfl) (fun _ => rfl) (fun _ _ => rfl) (fun _ _ => rfl) fun _ _ => rfl
/-- Call 2 as a segment of the run. -/
def reg2 : RegionSeg (pcfgs (F := F)) adm (pdats m) () defs₀ Variants.none L lv 2 :=
  reg m 2 launch2 (W5 m) (fun c => dat2_body (W5 m c) c) (fun _ _ => rfl) (fun _ => rfl) (fun _ _ => rfl) (fun _ _ => rfl) fun _ _ => rfl
/-- Call 3 as a segment of the run. -/
def reg3 : RegionSeg (pcfgs (F := F)) adm (pdats m) () defs₀ Variants.none L lv 3 :=
  reg m 3 launch3 (W7 m) (fun c => dat3_body (W7 m c) c) (fun _ _ => rfl) (fun _ => rfl) (fun _ _ => rfl) (fun _ _ => rfl) fun _ _ => rfl

/-- A stretch of host operations as a segment, from the buffers `V`. -/
def hseg (ops : List (HloOp τ sig (Elt F))) (hsub : ops.Forall fun op => op.bufs ⊆ StableHlo.tcRefs τ sig) (hfresh : ops.Forall fun op => op.fresh = ∅)
    (V : Dev nD → Valuation τ sig (Elt F)) : HostSeg (Ix := Unit) (Name := ℕ) (U := UR sig nD τ) (Lvl := ℕ) (pcfgs (F := F)) defs₀ Variants.none L lv :=
  HostSeg.ofOps _ _ _ _ _ (Pipeline.ucRefs τ sig) ops (fun op h => Pipeline.sub_ucRefs op (List.forall_iff_forall_mem.mp hsub op h))
    (fun op h => List.forall_iff_forall_mem.mp hfresh op h) V R

/-- The program, item by item. -/
abbrev items : List (Seg (pcfgs (F := F)) adm (pdats m) () defs₀ Variants.none L lv) :=
  [.host (hseg hostOps0 hostOps0_sub hostOps0_fresh (W0 m)), .region (reg0 m), .host (hseg hostOps1 hostOps1_sub hostOps1_fresh (W2 m)), .region (reg1 m),
   .host (hseg hostOps2 hostOps2_sub hostOps2_fresh (W4 m)), .region (reg2 m), .host (hseg hostOps3 hostOps3_sub hostOps3_fresh (W6 m)), .region (reg3 m),
   .host (hseg hostOps4 hostOps4_sub hostOps4_fresh (W8 m))]

/-- The arrays of call 0 are among those that the run holds. -/
theorem sub0 : Pipeline.arrRefs (τ := τ) ((pcfgs (F := F) 0).spec) ⊆ Pipeline.ucRefs τ sig := Pipeline.arrRefs_sub_ucRefs _ winFacts0.arr_unscoped
/-- The arrays of call 1 are among those that the run holds. -/
theorem sub1 : Pipeline.arrRefs (τ := τ) ((pcfgs (F := F) 1).spec) ⊆ Pipeline.ucRefs τ sig := Pipeline.arrRefs_sub_ucRefs _ winFacts1.arr_unscoped
/-- The arrays of call 2 are among those that the run holds. -/
theorem sub2 : Pipeline.arrRefs (τ := τ) ((pcfgs (F := F) 2).spec) ⊆ Pipeline.ucRefs τ sig := Pipeline.arrRefs_sub_ucRefs _ winFacts2.arr_unscoped
/-- The arrays of call 3 are among those that the run holds. -/
theorem sub3 : Pipeline.arrRefs (τ := τ) ((pcfgs (F := F) 3).spec) ⊆ Pipeline.ucRefs τ sig := Pipeline.arrRefs_sub_ucRefs _ winFacts3.arr_unscoped

/-- After a call the buffers are `afterRegion` of its proof data, under whichever name `d` of it. -/
theorem reg_post (c : Dev nD) (p : Fin 4) (hsub : Pipeline.arrRefs (τ := τ) ((pcfgs (F := F) p).spec) ⊆ Pipeline.ucRefs τ sig) (kit) (V : Dev nD → Valuation τ sig (Elt F)) (hbody howed hrec hq hΦ hA)
    (d : Dat τ (Elt F) Unit ℕ (UR sig nD τ) ℕ (cfgs p) c) (hd : pdats m p c = d) :
    (reg m p kit V hbody howed hrec hq hΦ hA).post c ⊢ iprop(StableHlo.held (c.tc : Thread nD τ) (Pipeline.ucRefs τ sig) (afterRegion d (V c)) ∗ R c) := by
  subst hd
  unfold reg
  exact RegionSeg.ofHeldIn_post hsub c

/-- Holding every array, a call can be entered. -/
theorem reg_pre (c : Dev nD) (p : Fin 4) (hsub : Pipeline.arrRefs (τ := τ) ((pcfgs (F := F) p).spec) ⊆ Pipeline.ucRefs τ sig) (kit) (V : Dev nD → Valuation τ sig (Elt F)) (hbody howed hrec hq hΦ hA) :
    iprop(StableHlo.held (c.tc : Thread nD τ) (Pipeline.ucRefs τ sig) (V c) ∗ R c) ⊢ (reg m p kit V hbody howed hrec hq hΦ hA).pre c := by
  unfold reg
  exact Entails.trans .rfl (RegionSeg.ofHeldIn_pre (W := V) (X := fun _ => iprop(emp)) (R := fun _ => iprop(emp)) (D := fun _ => 0) hsub c)

/-- Holding memory as it is before call 0, the call can be entered. -/
theorem reg0_pre (c : Dev nD) : iprop(StableHlo.held (c.tc : Thread nD τ) (Pipeline.ucRefs τ sig) (W1 m c) ∗ R c) ⊢ (reg0 m).pre c :=
  reg_pre m c 0 sub0 launch0 (W1 m) _ _ _ _ _ _
/-- What call 0 hands back is memory as it is after the call. -/
theorem reg0_post (c : Dev nD) : (reg0 m).post c ⊢ iprop(StableHlo.held (c.tc : Thread nD τ) (Pipeline.ucRefs τ sig) (W2 m c) ∗ R c) :=
  reg_post m c 0 sub0 launch0 (W1 m) _ _ _ _ _ _ (dat0 (W1 m c) c) rfl
/-- Holding memory as it is before call 1, the call can be entered. -/
theorem reg1_pre (c : Dev nD) : iprop(StableHlo.held (c.tc : Thread nD τ) (Pipeline.ucRefs τ sig) (W3 m c) ∗ R c) ⊢ (reg1 m).pre c :=
  reg_pre m c 1 sub1 launch1 (W3 m) _ _ _ _ _ _
/-- What call 1 hands back is memory as it is after the call. -/
theorem reg1_post (c : Dev nD) : (reg1 m).post c ⊢ iprop(StableHlo.held (c.tc : Thread nD τ) (Pipeline.ucRefs τ sig) (W4 m c) ∗ R c) :=
  reg_post m c 1 sub1 launch1 (W3 m) _ _ _ _ _ _ (dat1 (W3 m c) c) rfl
/-- Holding memory as it is before call 2, the call can be entered. -/
theorem reg2_pre (c : Dev nD) : iprop(StableHlo.held (c.tc : Thread nD τ) (Pipeline.ucRefs τ sig) (W5 m c) ∗ R c) ⊢ (reg2 m).pre c :=
  reg_pre m c 2 sub2 launch2 (W5 m) _ _ _ _ _ _
/-- What call 2 hands back is memory as it is after the call. -/
theorem reg2_post (c : Dev nD) : (reg2 m).post c ⊢ iprop(StableHlo.held (c.tc : Thread nD τ) (Pipeline.ucRefs τ sig) (W6 m c) ∗ R c) :=
  reg_post m c 2 sub2 launch2 (W5 m) _ _ _ _ _ _ (dat2 (W5 m c) c) rfl
/-- Holding memory as it is before call 3, the call can be entered. -/
theorem reg3_pre (c : Dev nD) : iprop(StableHlo.held (c.tc : Thread nD τ) (Pipeline.ucRefs τ sig) (W7 m c) ∗ R c) ⊢ (reg3 m).pre c :=
  reg_pre m c 3 sub3 launch3 (W7 m) _ _ _ _ _ _
/-- What call 3 hands back is memory as it is after the call. -/
theorem reg3_post (c : Dev nD) : (reg3 m).post c ⊢ iprop(StableHlo.held (c.tc : Thread nD τ) (Pipeline.ucRefs τ sig) (W8 m c) ∗ R c) :=
  reg_post m c 3 sub3 launch3 (W7 m) _ _ _ _ _ _ (dat3 (W7 m c) c) rfl

set_option backward.isDefEq.respectTransparency.types false in
/-- Every weakly fair execution of the program from memory `m` with zero counters terminates, nothing faulting; every final state holds every
    unscoped buffer at `W9` and every semaphore counter at zero. -/
theorem run_main : θ_run defs (onTc (τ := τ) (main (F := F))) ⟨m, fun _ => 0, ρ⟩ (fun r => (∀ c : Dev nD, ∀ b ∈ Pipeline.ucRefs τ sig, r.2.mem (c, b) = W9 m c b)
      ∧ r.2.sem = fun _ => 0) := by
  refine Pipeline.θ_run_regions_kit_dev_sems (pcfgs (F := F)) adm (pdats m) () cellOf_inj emb₁ defs₀ Variants.none L lv m ρ main
    (fun _ => items m)
    (fun c Q => by
      rewrite [main_chain c, Seg.run_eq_chain,
        show (items m).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4 ] from rfl]
      dsimp (config := { failIfUnchanged := false }) only
      exact .rfl)
    (fun c => by simp only [items, Seg.pipes_host, Seg.pipes_region, Seg.pipes_nil]; decide) (O₀ := 0) (hL := fun g h => if_neg h)
    (G := fun _ => iprop(emp)) (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => StableHlo.held (c : Thread nD τ) (Pipeline.ucRefs τ sig) (W9 m c))
    (hch := fun c => ⟨.rfl, reg0_pre m c, reg0_post m c, reg1_pre m c, reg1_post m c, reg2_pre m c, reg2_post m c, reg3_pre m c, reg3_post m c,
      sep_mono .rfl (by iintro ⟨H, -, -⟩; iexact H)⟩)
    (hinit := by
      refine Pipeline.initEach L lv fun c => ?_
      rw [show unscopedBufs c (fun b => m ((c.tc : Thread nD τ).loc b)) = StableHlo.held (c.tc : Thread nD τ) (Pipeline.ucRefs τ sig) (W0 m c)
          from Pipeline.unscopedBufs_held (Ix := Unit) (Name := ℕ) (U := UR sig nD τ) (Lvl := ℕ) c (W0 m c)]
      iintro ⟨⟨Hh, -, HO, -, -, -⟩, -⟩
      imodintro
      isplitl [Hh]; · iexact Hh
      isplitl [HO]; · iexists ∅; iexact HO
      isplitl []; · iempintro
      iempintro)
    (QY := fun c s => ∀ b ∈ Pipeline.ucRefs τ sig, s.mem (c, b) = W9 m c b)
    (hfin := fun c s' => by
      unfold StableHlo.held
      iintro ⟨Hh, HSI⟩
      ihave Hr := (pointsTo_read_all (Pipeline.ucRefs τ sig) (fun b => ((c.tc : Thread nD τ).1, b)) (W9 m c) s') $$ [Hh HSI]
      · isplitl [Hh] <;> iassumption
      imodintro; iexact Hr)
    (hQ := fun _ h hz => ⟨h, funext fun g => hz g (.inr (regions_no_unscoped g.2))⟩)

end Cert.KernelIdeal.Dist
-- ==== Proof.Frame.lean ====
module

public import proofs.«01_k».proof.Proof.Run
public import Idealize.ShloMosaic.Lib.StableHlo.RunHlo

@[expose] public section

set_option maxHeartbeats 1000000

noncomputable section

namespace Cert.KernelIdeal.Dist

open Idealize.ShloMosaic Idealize.ShloMosaic.TcCoe Idealize.ShloMosaic.Tactic
open Idealize.SL.Sem
open Idealize.ShloMosaic.Pipeline (Dat afterRegion)
open Cert.KernelIdeal Cert.KernelIdeal.Gen

variable {F : FTy → Type} [FloatOps F]

variable (m : (ℓ : Loc nD τ sig) → Buf (Elt F) ℓ) (ρ : Dev nD → PrngReg)

/-- The arrays the program writes: two reshaped argument vectors, the four calls' results, and the transposed result. -/
abbrev written : List (Ref sig .tc) := [main_v0, main_v1, main_v2, main_v3, main_v4, main_v5, main_v6]

section
variable (c : Dev nD) (r : Ref sig .tc)

/-- Of the memory at point 1 of the run: a buffer that the step before it does not write is as it was. -/
theorem W1_of (h : r ∉ written) : W1 m c (Proc.devRef .tc r) = m (c, Proc.devRef .tc r) :=
  StableHlo.after_of_writes_sub hostOps0 _ hostOps0_writes fun hm => h (by revert hm; simp [written, hostOps0_W]; tauto)
/-- Of the memory at point 2 of the run: a buffer that the step before it does not write is as it was. -/
theorem W2_of (h : r ≠ main_v2) : W2 m c (Proc.devRef .tc r) = W1 m c (Proc.devRef .tc r) :=
  Pipeline.afterRegion_keeps (dat0 (W1 m c) c) _ launch0.win.arr_inj (fun _ => rfl) r fun w hw => by
    fin_cases w <;> first | rfl | exact absurd hw.symm h
/-- Of the memory at point 3 of the run: a buffer that the step before it does not write is as it was. -/
theorem W3_of (h : r ≠ main_v3) : W3 m c (Proc.devRef .tc r) = W2 m c (Proc.devRef .tc r) :=
  StableHlo.after_of_writes_sub hostOps1 _ hostOps1_writes fun hm => h (by simpa [hostOps1_W] using hm)
/-- Of the memory at point 4 of the run: a buffer that the step before it does not write is as it was. -/
theorem W4_of (h : r ≠ main_v3) : W4 m c (Proc.devRef .tc r) = W3 m c (Proc.devRef .tc r) :=
  Pipeline.afterRegion_keeps (dat1 (W3 m c) c) _ launch1.win.arr_inj (fun _ => rfl) r fun w hw => by
    fin_cases w <;> first | rfl | exact absurd hw.symm h
/-- Of the memory at point 5 of the run: a buffer that the step before it does not write is as it was. -/
theorem W5_of (h : r ≠ main_v4) : W5 m c (Proc.devRef .tc r) = W4 m c (Proc.devRef .tc r) :=
  StableHlo.after_of_writes_sub hostOps2 _ hostOps2_writes fun hm => h (by simpa [hostOps2_W] using hm)
/-- Of the memory at point 6 of the run: a buffer that the step before it does not write is as it was. -/
theorem W6_of (h : r ≠ main_v4) : W6 m c (Proc.devRef .tc r) = W5 m c (Proc.devRef .tc r) :=
  Pipeline.afterRegion_keeps (dat2 (W5 m c) c) _ launch2.win.arr_inj (fun _ => rfl) r fun w hw => by
    fin_cases w <;> first | rfl | exact absurd hw.symm h
/-- Of the memory at point 7 of the run: a buffer that the step before it does not write is as it was. -/
theorem W7_of (h : r ≠ main_v5) : W7 m c (Proc.devRef .tc r) = W6 m c (Proc.devRef .tc r) :=
  StableHlo.after_of_writes_sub hostOps3 _ hostOps3_writes fun hm => h (by simpa [hostOps3_W] using hm)
/-- Of the memory at point 8 of the run: a buffer that the step before it does not write is as it was. -/
theorem W8_of (h : r ≠ main_v5) : W8 m c (Proc.devRef .tc r) = W7 m c (Proc.devRef .tc r) :=
  Pipeline.afterRegion_keeps (dat3 (W7 m c) c) _ launch3.win.arr_inj (fun _ => rfl) r fun w hw => by
    fin_cases w <;> first | rfl | exact absurd hw.symm h
/-- Of the memory at point 9 of the run: a buffer that the step before it does not write is as it was. -/
theorem W9_of (h : r ≠ main_v6) : W9 m c (Proc.devRef .tc r) = W8 m c (Proc.devRef .tc r) :=
  StableHlo.after_of_writes_sub hostOps4 _ hostOps4_writes fun hm => h (by simpa [hostOps4_W] using hm)

/-- An array the program does not write ends as it began. -/
theorem W9_unwritten (h : r ∉ written) : W9 m c (Proc.devRef .tc r) = m (c, Proc.devRef .tc r) := by
  have hne : ∀ x ∈ written, r ≠ x := fun x hx e => h (e ▸ hx)
  rw [W9_of _ _ _ (hne main_v6 (by decide)), W8_of _ _ _ (hne main_v5 (by decide)), W7_of _ _ _ (hne main_v5 (by decide)),
    W6_of _ _ _ (hne main_v4 (by decide)), W5_of _ _ _ (hne main_v4 (by decide)), W4_of _ _ _ (hne main_v3 (by decide)),
    W3_of _ _ _ (hne main_v3 (by decide)), W2_of _ _ _ (hne main_v2 (by decide)), W1_of _ _ _ h]

end

/-- A final state's unscoped array holds `W9`. -/
theorem at_end {mem : (ℓ : Loc nD τ sig) → Buf (Elt F) ℓ} (h : ∀ c : Dev nD, ∀ b ∈ Pipeline.ucRefs τ sig, mem (c, b) = W9 m c b) (c : Dev nD)
    (r : Ref sig .tc) (hr : ¬ (Proc.devRef (τ := τ) .tc r).isScoped) : mem ((c.tc : Thread nD τ).loc r) = W9 m c (Proc.devRef .tc r) :=
  h c _ (Finset.mem_filter.mpr ⟨StableHlo.devRef_mem_tcRefs r, hr⟩)

/-- The arguments at a final state are as they began. -/
theorem args_end {mem : (ℓ : Loc nD τ sig) → Buf (Elt F) ℓ} (h : ∀ c : Dev nD, ∀ b ∈ Pipeline.ucRefs τ sig, mem (c, b) = W9 m c b) (c : Dev nD) :
    mem ((c.tc : Thread nD τ).loc main_arg0) = m ((c.tc : Thread nD τ).loc main_arg0)
    ∧ mem ((c.tc : Thread nD τ).loc main_arg1) = m ((c.tc : Thread nD τ).loc main_arg1)
    ∧ mem ((c.tc : Thread nD τ).loc main_arg2) = m ((c.tc : Thread nD τ).loc main_arg2)
    ∧ mem ((c.tc : Thread nD τ).loc main_arg3) = m ((c.tc : Thread nD τ).loc main_arg3)
    ∧ mem ((c.tc : Thread nD τ).loc main_arg4) = m ((c.tc : Thread nD τ).loc main_arg4)
    ∧ mem ((c.tc : Thread nD τ).loc main_arg5) = m ((c.tc : Thread nD τ).loc main_arg5)
    ∧ mem ((c.tc : Thread nD τ).loc main_arg6) = m ((c.tc : Thread nD τ).loc main_arg6)
    ∧ mem ((c.tc : Thread nD τ).loc main_arg7) = m ((c.tc : Thread nD τ).loc main_arg7)
    ∧ mem ((c.tc : Thread nD τ).loc main_arg8) = m ((c.tc : Thread nD τ).loc main_arg8)
    ∧ mem ((c.tc : Thread nD τ).loc main_arg9) = m ((c.tc : Thread nD τ).loc main_arg9) := by
  have step (r : Ref sig .tc) (hr : ¬ (Proc.devRef (τ := τ) .tc r).isScoped) (hw : r ∉ written) :
      mem ((c.tc : Thread nD τ).loc r) = m ((c.tc : Thread nD τ).loc r) := (at_end m h c r hr).trans (W9_unwritten m c r hw)
  exact ⟨step _ (by decide) (by decide), step _ (by decide) (by decide), step _ (by decide) (by decide), step _ (by decide) (by decide),
    step _ (by decide) (by decide), step _ (by decide) (by decide), step _ (by decide) (by decide), step _ (by decide) (by decide),
    step _ (by decide) (by decide), step _ (by decide) (by decide)⟩

/-- The program terminates without fault, its arguments as they began and every counter at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) ∧ r.2.sem = fun _ => 0) :=
  θ_run_mono (run_main m ρ) fun _ h => ⟨fun c => args_end m h.1 c, h.2⟩

end Cert.KernelIdeal.Dist
-- ==== Proof.Transport.lean ====
module

public import proofs.«01_k».proof.Proof.Frame
public import proofs.«01_k».proof.Proof.Gen.Kernel
public import proofs.«01_k».proof.Kernel
public import proofs.«01_k».proof.Defs

@[expose] public section

set_option maxHeartbeats 4000000
set_option maxRecDepth 100000

noncomputable section

namespace Cert.Kernel.Dist

open Idealize.ShloMosaic Idealize.ShloMosaic.TcCoe Idealize.SL.Sem

variable {F : FTy → Type} [FloatOps F]

/-- The printed program and the idealized one are the same `main`. -/
theorem main_eq : (Cert.Kernel.main (F := F)) = (Cert.KernelIdeal.main (F := F)) := rfl
/-- They have the same body of call 0. -/
theorem cc0_eq : @Cert.Kernel.cc0_dist0 F _ _ = @Cert.KernelIdeal.cc0_dist0 F _ _ := rfl
/-- They have the same body of call 1. -/
theorem cc1_eq : @Cert.Kernel.cc1_dist1 F _ _ = @Cert.KernelIdeal.cc1_dist1 F _ _ := rfl
/-- They have the same body of call 2. -/
theorem cc2_eq : @Cert.Kernel.cc2_dist2 F _ _ = @Cert.KernelIdeal.cc2_dist2 F _ _ := rfl
/-- They have the same body of call 3. -/
theorem cc3_eq : @Cert.Kernel.cc3_dist3 F _ _ = @Cert.KernelIdeal.cc3_dist3 F _ _ := rfl

/-- They have the same table of bodies. -/
theorem defs₀_eq : (Cert.Kernel.defs₀ (F := F)) = (Cert.KernelIdeal.defs₀ (F := F)) := by
  unfold Cert.Kernel.defs₀ Cert.KernelIdeal.defs₀
  refine congrArg Defs.onTc ?_
  funext ℓ a
  match ℓ, a with
  | 0, (t, s) => dsimp only; rw [cc0_eq]; rfl
  | 1, (t, s) => dsimp only; rw [cc1_eq]; rfl
  | 2, (t, s) => dsimp only; rw [cc2_eq]; rfl
  | 3, (t, s) => dsimp only; rw [cc3_eq]; rfl

/-- They have the same table of definitions. -/
theorem defs_eq : (Cert.Kernel.defs (F := F)) = (Cert.KernelIdeal.defs (F := F)) := by
  unfold Cert.Kernel.defs Cert.KernelIdeal.defs
  rw [defs₀_eq]
  rfl

end Cert.Kernel.Dist

/-- The frame of the printed program, from that of the idealized one, which is proved for any floats. -/
theorem Cert.Kernel.Dist.frame : @Cert.quiescent_Kernel Cert.Kernel.Gen.facts := by
  intro m g _
  rw [Cert.Kernel.Dist.defs_eq, Cert.Kernel.Dist.main_eq]
  exact Cert.KernelIdeal.Dist.run_frame (F := _) m g
-- ==== Proof.Spec.lean ====
module

public import Idealize.ShloMosaic.Lib.Pointwise
public import Idealize.ShloMosaic.Lib.WordCmp

@[expose] public section

noncomputable section

/-! # What one node's table of distances is

A node has 60 slots. Its codes come as 16 rows of 128 words; byte `k` of word `(q, d)` is coordinate `d` of slot `4 q + k`. -/

namespace Cert.Dist

open Idealize.ShloMosaic

/-- Byte `k` of a word. -/
def byteOf (w : BitVec 32) (k : ℕ) : BitVec 8 := w.extractLsb' (k * 8) 8

/-- A byte read as a signed integer, exactly. -/
def codeOf (b : BitVec 8) : EReal := ((b.toInt : ℝ) : EReal)

/-- Coordinate `d` of slot `i`. -/
def code (w : Fin 16 → Fin 128 → BitVec 32) (i : Fin 60) (d : Fin 128) : EReal :=
  codeOf (byteOf (w ⟨i.val / 4, by omega⟩ d) (i.val % 4))

/-- The product of slots `i` and `j`. -/
def dot (w : Fin 16 → Fin 128 → BitVec 32) (i j : Fin 60) : EReal := ∑ d : Fin 128, code w i d * code w j d

/-- The squared norm of slot `i`, scaled. -/
def norm (w : Fin 16 → Fin 128 → BitVec 32) (s : Fin 60 → EReal) (i : Fin 60) : EReal := (s i * s i) * dot w i i

/-- Whether slots `i` and `j` are both filled and at least one of them is new. -/
def kept (cnt new : BitVec 32) (i j : ℕ) : Prop :=
  ((i : ℤ) < cnt.toInt ∧ (j : ℤ) < cnt.toInt) ∧ ((i : ℤ) < new.toInt ∨ (j : ℤ) < new.toInt)

open Classical in
/-- The distance of slots `i` and `j`, or `-1` for a pair that is not kept. -/
def entry (w : Fin 16 → Fin 128 → BitVec 32) (s : Fin 60 → EReal) (cnt new : BitVec 32) (i j : Fin 60) : EReal :=
  if kept cnt new i.val j.val then (norm w s i + norm w s j) - ((Ideal.ofBits .f32 0x40000000#32 * s i) * s j) * dot w i j
  else Ideal.ofBits .f32 0xBF800000#32

/-! ## How the two programs say which pairs are kept -/

/-- A slot's number compared with a word. -/
theorem slt_iff (a : ℕ) (ha : a < 60) (v : BitVec 32) : IntOp.cmpi .slt (BitVec.ofNat 32 a) v = 1#1 ↔ (a : ℤ) < v.toInt := by
  have e : (BitVec.ofNat 32 a).toInt = (a : ℤ) := by rw [BitVec.toInt_eq_toNat_of_lt (by simp; omega)]; simp; omega
  rw [show IntOp.cmpi .slt (BitVec.ofNat 32 a) v = BitVec.ofBool (decide ((BitVec.ofNat 32 a).toInt < v.toInt)) from rfl, e]
  by_cases h : (a : ℤ) < v.toInt <;> simp [h]

theorem andi_iff (a b : BitVec 1) : IntOp.andi a b = 1#1 ↔ a = 1#1 ∧ b = 1#1 := by revert a b; decide
theorem ori_iff (a b : BitVec 1) : IntOp.ori a b = 1#1 ↔ a = 1#1 ∨ b = 1#1 := by revert a b; decide

/-- Pair by pair: both filled, and one of them new. -/
theorem kept_iff_pair (cnt new : BitVec 32) (i j : Fin 60) :
    IntOp.andi (IntOp.andi (IntOp.cmpi .slt (BitVec.ofNat 32 i.val) cnt) (IntOp.cmpi .slt (BitVec.ofNat 32 j.val) cnt))
        (IntOp.ori (IntOp.cmpi .slt (BitVec.ofNat 32 i.val) new) (IntOp.cmpi .slt (BitVec.ofNat 32 j.val) new)) = 1#1
      ↔ kept cnt new i.val j.val := by
  simp only [andi_iff, ori_iff, slt_iff _ i.isLt, slt_iff _ j.isLt, kept]

/-- Row by row: row `i` keeps the slots below a limit, all the filled ones for a new row, the new ones for an old row. -/
theorem kept_iff_limit (cnt new : BitVec 32) (i j : Fin 60) :
    IntOp.cmpi .slt (BitVec.ofNat 32 j.val) (Scalar.select (IntOp.cmpi .slt (BitVec.ofNat 32 i.val) (IntOp.minsi cnt new)) cnt
        (Scalar.select (IntOp.cmpi .slt (BitVec.ofNat 32 i.val) cnt) (IntOp.minsi cnt new) 0#32)) = 1#1
      ↔ kept cnt new i.val j.val := by
  have hmin : (IntOp.minsi cnt new).toInt = min cnt.toInt new.toInt := by
    unfold IntOp.minsi
    by_cases h : cnt.toInt < new.toInt
    · rw [if_pos (by simpa [BitVec.slt] using h)]; omega
    · rw [if_neg (by simpa [BitVec.slt] using h)]; omega
  rw [slt_iff _ j.isLt]
  unfold Scalar.select kept
  simp only [show (1 : BitVec 1) = 1#1 from rfl, slt_iff _ i.isLt, hmin]
  split_ifs with h1 h2
  · constructor <;> intro h <;> omega
  · rw [hmin]; constructor <;> intro h <;> omega
  · simp; omega

end Cert.Dist

end
-- ==== Proof.Entry.lean ====
module

public import proofs.«01_k».proof.Proof.Body
public import proofs.«01_k».proof.Proof.Spec
public import Idealize.ShloMosaic.Lib.BitcastPair

@[expose] public section

set_option maxHeartbeats 1000000

noncomputable section

namespace Cert.KernelIdeal.Dist

open Idealize.ShloMosaic Idealize.ShloMosaic.TcCoe
open Cert.KernelIdeal Cert.KernelIdeal.Gen

/-- Words read at eight bits: row `i` of a column is byte `i % 4` of row `i / 4`. -/
theorem bitcast_32_8 {R r n : ℕ} (x : (⟨2, ![r, n]⟩ : Shape).Idx → BitVec 32) (h : (⟨2, ![r, n]⟩ : Shape).Bitcasts 32 ⟨2, ![R, n]⟩ 8)
    (a : Fin R) (l : Fin n) (p : Fin r) (hp : p.val = a.val / 4) :
    bitcast ⟨2, ![R, n]⟩ 8 x h (ix2 a l) = Cert.Dist.byteOf (x (ix2 p l)) (a.val % 4) := by
  rw [ix2_eq_valueIdx, ix2_eq_valueIdx]
  apply BitVec.eq_of_getLsbD_eq
  intro i hi
  have hr : (⟨2, ![R, n]⟩ : Shape).row (ValueIdx.ix2 a l) = a.val := rfl
  rw [bitcast_getLsbD x h _ i hi (by decide), Cert.Dist.byteOf, BitVec.getLsbD_extractLsb']
  have e : h.srcIdx (ValueIdx.ix2 a l) (((⟨2, ![R, n]⟩ : Shape).row (ValueIdx.ix2 a l) * 8 + i) / 32)
      (fun c hc => (Nat.div_lt_iff_lt_mul (by decide)).2 (h.pos_lt (ValueIdx.ix2 a l) i hi c hc)) = ValueIdx.ix2 p l := by
    funext c
    match c with
    | ⟨0, _⟩ => exact Fin.ext ((h.srcIdx_row _ _ _ ⟨0, Nat.zero_lt_two⟩ rfl).trans (by rw [hr]; show _ = p.val; omega))
    | ⟨1, _⟩ => exact Fin.ext (h.srcIdx_other _ _ _ ⟨1, Nat.one_lt_two⟩ (by show ¬ 1 + 2 = 2; omega))
  rw [e, hr, show (a.val * 8 + i) % 32 = a.val % 4 * 8 + i by omega]
  simp [hi]

/-- The packed words of node `l` of a block. -/
def blockWords (x1 : Vec Ideal S4096x128 .i32) (l : Fin 256) (q : Fin 16) (d : Fin 128) : BitVec 32 := x1 (ix2 ⟨16 * l.val + q.val, by omega⟩ d)

/-- The codes that the matrix unit reads off a node's words. -/
theorem operand_apply (x1 : Vec Ideal S4096x128 .i32) (l : Fin 256) (i : Fin 60) (r : Fin 64) (hr : r.val = i.val) (d : Fin 128) :
    FloatOps.sitofp (F := Ideal) .bf16 (bitcast S64x128 8 (rowsAt x1 l.val l.isLt) bitcasts_S16x128_w32_S64x128_w8 (ix2 r d))
      = Cert.Dist.code (blockWords x1 l) i d := by
  rw [bitcast_32_8 _ _ r d ⟨i.val / 4, by omega⟩ (by rw [hr]), hr, Cert.Dist.code]
  have e : rowsAt x1 l.val l.isLt (ix2 ⟨i.val / 4, by omega⟩ d) = blockWords x1 l ⟨i.val / 4, by omega⟩ d := by
    unfold rowsAt blockWords
    rw [← ix2_eq_valueIdx]; rfl
  rw [e]; rfl

/-- Columns below 64 hold the first node's products. -/
theorem pay2_low (a b : Vec Ideal S16x128 .i32) (i j : Fin 64) (c : Fin 128) (hc : c.val = j.val) :
    k0_pay2 (F := Ideal) a b (ix2 i c)
      = ∑ x : Fin 128, FloatOps.sitofp (F := Ideal) .bf16 (bitcast S64x128 8 a bitcasts_S16x128_w32_S64x128_w8 (ix2 i x))
          * FloatOps.sitofp (F := Ideal) .bf16 (bitcast S64x128 8 a bitcasts_S16x128_w32_S64x128_w8 (ix2 j x)) := by
  pointwise [k0_pay2]
  have h : c.val < 64 := by omega
  have hj : (⟨c.val, h⟩ : Fin 64) = j := Fin.ext hc
  simp only [dif_pos h, hj, mul_zero, Finset.sum_const_zero, add_zero]

/-- Columns from 64 on hold the second node's. -/
theorem pay2_high (a b : Vec Ideal S16x128 .i32) (i j : Fin 64) (c : Fin 128) (hc : c.val = 64 + j.val) :
    k0_pay2 (F := Ideal) a b (ix2 i c)
      = ∑ x : Fin 128, FloatOps.sitofp (F := Ideal) .bf16 (bitcast S64x128 8 b bitcasts_S16x128_w32_S64x128_w8 (ix2 i x))
          * FloatOps.sitofp (F := Ideal) .bf16 (bitcast S64x128 8 b bitcasts_S16x128_w32_S64x128_w8 (ix2 j x)) := by
  pointwise [k0_pay2]
  have h : ¬ c.val < 64 := by omega
  have hj : (⟨c.val - 64, by omega⟩ : Fin 64) = j := Fin.ext (by show c.val - 64 = j.val; omega)
  simp only [dif_neg h, hj, mul_zero, Finset.sum_const_zero, zero_add]

/-- The products of a node's slots are the sums over the coordinates of their codes' products. -/
theorem gramAt_apply (x1 : Vec Ideal S4096x128 .i32) (i j : Fin 60) (l : Fin 256) :
    gramAt x1 i.val j.val l.val i.isLt j.isLt l.isLt = Cert.Dist.dot (blockWords x1 l) i j := by
  unfold gramAt pairGram Cert.Dist.dot
  rw [← ix2_eq_valueIdx]
  by_cases h : l.val < 128
  · rw [pay2_low _ _ _ ⟨j.val, by omega⟩ _ (by show 64 * (l.val / 128) + j.val = j.val; omega)]
    refine Finset.sum_congr rfl fun d _ => ?_
    have e : rowsAt x1 (l.val % 128) (by omega) = rowsAt x1 l.val l.isLt := by
      congr 1; omega
    rw [e, operand_apply x1 l i _ rfl, operand_apply x1 l j _ rfl]
  · rw [pay2_high _ _ _ ⟨j.val, by omega⟩ _ (by show 64 * (l.val / 128) + j.val = 64 + j.val; omega)]
    refine Finset.sum_congr rfl fun d _ => ?_
    have e : rowsAt x1 (l.val % 128 + 128) (by omega) = rowsAt x1 l.val l.isLt := by
      congr 1; omega
    rw [e, operand_apply x1 l i _ rfl, operand_apply x1 l j _ rfl]

/-- The scaled squared norms. -/
theorem normBlk_apply (x1 : Vec Ideal S4096x128 .i32) (x2 : Vec Ideal S60x256 .f32) (i : Fin 60) (l : Fin 256) :
    normBlk x1 x2 (ix2 i l) = Cert.Dist.norm (blockWords x1 l) (fun i => x2 (ix2 i l)) i := by
  unfold normBlk
  pointwise [k0_pay325]
  exact congrArg _ (gramAt_apply x1 i i l)

/-- The block a grid point leaves, entry by entry. -/
theorem outBlk_apply (x1 : Vec Ideal S4096x128 .i32) (x2 : Vec Ideal S60x256 .f32) (x3 x4 : Vec Ideal S1x256 .i32) (i j : Fin 60) (l : Fin 256) :
    outBlk x1 x2 x3 x4 (ix3 i j l)
      = Cert.Dist.entry (blockWords x1 l) (fun i => x2 (ix2 i l)) (x3 (ix2 0 l)) (x4 (ix2 0 l)) i j := by
  have hr (x : Vec Ideal S60x256 .f32) (h : i.val < 60) : rowOf x i.val h (ix2 0 l) = x (ix2 i l) := by
    unfold rowOf
    rw [← ix2_eq_valueIdx]; rfl
  unfold outBlk
  rw [← ix3_eq_valueIdx]
  pointwise [k0_pay1, k0_pay326]
  have hiv : Scf.iv 0#32 1#32 i.val = BitVec.ofNat 32 i.val := by simp [Scf.iv]
  rw [hiv]
  erw [hr (normBlk x1 x2), hr x2]
  rw [normBlk_apply, normBlk_apply, gramAt_apply]
  have hk := Cert.Dist.kept_iff_limit (x3 (ix2 0 l)) (x4 (ix2 0 l)) i j
  unfold Cert.Dist.entry
  by_cases h : Cert.Dist.kept (x3 (ix2 0 l)) (x4 (ix2 0 l)) i.val j.val
  · rw [if_pos h]
    exact if_pos (hk.2 h)
  · rw [if_neg h]
    exact if_neg fun h' => h (hk.1 h')

end Cert.KernelIdeal.Dist

end
-- ==== Proof.Calls.lean ====
module

public import proofs.«01_k».proof.Proof.Frame
public import proofs.«01_k».proof.Proof.Entry
public import Idealize.ShloMosaic.Lib.Pipeline.ValueKit

@[expose] public section

set_option maxHeartbeats 1000000

noncomputable section

namespace Cert.KernelIdeal.Dist

open Idealize.ShloMosaic Idealize.ShloMosaic.TcCoe
open Idealize.ShloMosaic.Pipeline (Dat afterRegion)
open Cert.KernelIdeal Cert.KernelIdeal.Gen

/-- What a call leaves at a pair of slots of a node: the node's codes and scales are the call's own arrays', its two numbers those of all nodes. -/
def callEntry (codes : Vec Ideal S65536x128 .i32) (s : Vec Ideal S60x4096 .f32) (cnt new : Vec Ideal S1x16384 .i32) : Vec Ideal S60x60x16384 .f32 := fun y =>
  Cert.Dist.entry (fun q d => codes (ix2 ⟨16 * ((y 2).val % 4096) + q.val, by omega⟩ d)) (fun i => s (ix2 i ⟨(y 2).val % 4096, by omega⟩))
    (cnt (ix2 0 ⟨(y 2).val, (y 2).isLt⟩)) (new (ix2 0 ⟨(y 2).val, (y 2).isLt⟩)) ⟨(y 0).val, (y 0).isLt⟩ ⟨(y 1).val, (y 1).isLt⟩

/-- A point's block is `callEntry`'s, when the blocks it reads are the blocks of the arrays at that point. -/
theorem outBlk_eq (codes : Vec Ideal S65536x128 .i32) (s : Vec Ideal S60x4096 .f32) (cnt new : Vec Ideal S1x16384 .i32) (k t : ℕ) (hk : k < 4) (ht : t < 16)
    (x1 : Vec Ideal S4096x128 .i32) (x2 : Vec Ideal S60x256 .f32) (x3 x4 : Vec Ideal S1x256 .i32)
    (h1 : ∀ (r : Fin 4096) (d : Fin 128), x1 (ix2 r d) = codes (ix2 ⟨t * 4096 + r.val, by omega⟩ d))
    (h2 : ∀ (i : Fin 60) (l : Fin 256), x2 (ix2 i l) = s (ix2 i ⟨t * 256 + l.val, by omega⟩))
    (h3 : ∀ l : Fin 256, x3 (ix2 0 l) = cnt (ix2 0 ⟨(16 * k + t) * 256 + l.val, by omega⟩))
    (h4 : ∀ l : Fin 256, x4 (ix2 0 l) = new (ix2 0 ⟨(16 * k + t) * 256 + l.val, by omega⟩)) (i j : Fin 60) (l : Fin 256) :
    outBlk x1 x2 x3 x4 (ix3 i j l) = callEntry codes s cnt new (ix3 i j ⟨(16 * k + t) * 256 + l.val, by omega⟩) := by
  rw [outBlk_apply, h3, h4]
  have hm : ((16 * k + t) * 256 + l.val) % 4096 = t * 256 + l.val := by omega
  have e1 : blockWords x1 l = fun q d => codes (ix2 ⟨16 * (((16 * k + t) * 256 + l.val) % 4096) + q.val, by omega⟩ d) := by
    funext q d
    rw [blockWords, h1]
    congr 2
    exact Fin.ext (by show t * 4096 + (16 * l.val + q.val) = 16 * (((16 * k + t) * 256 + l.val) % 4096) + q.val; omega)
  have e2 : (fun i => x2 (ix2 i l)) = fun i => s (ix2 i ⟨((16 * k + t) * 256 + l.val) % 4096, by omega⟩) := by
    funext i
    rw [h2]
    congr 2
    exact Fin.ext hm.symm
  rw [e1, e2]
  rfl

/-- The same at any index of the block, and the index of the array where it goes. -/
theorem outBlk_at (codes : Vec Ideal S65536x128 .i32) (s : Vec Ideal S60x4096 .f32) (cnt new : Vec Ideal S1x16384 .i32) (k t : ℕ) (hk : k < 4) (ht : t < 16)
    (x1 : Vec Ideal S4096x128 .i32) (x2 : Vec Ideal S60x256 .f32) (x3 x4 : Vec Ideal S1x256 .i32)
    (h1 : ∀ (r : Fin 4096) (d : Fin 128), x1 (ix2 r d) = codes (ix2 ⟨t * 4096 + r.val, by omega⟩ d))
    (h2 : ∀ (i : Fin 60) (l : Fin 256), x2 (ix2 i l) = s (ix2 i ⟨t * 256 + l.val, by omega⟩))
    (h3 : ∀ l : Fin 256, x3 (ix2 0 l) = cnt (ix2 0 ⟨(16 * k + t) * 256 + l.val, by omega⟩))
    (h4 : ∀ l : Fin 256, x4 (ix2 0 l) = new (ix2 0 ⟨(16 * k + t) * 256 + l.val, by omega⟩)) (y : S60x60x256.Idx) (z : S60x60x16384.Idx)
    (z0 : (z 0).val = (y 0).val) (z1 : (z 1).val = (y 1).val) (z2 : (z 2).val = (16 * k + t) * 256 + (y 2).val) :
    outBlk x1 x2 x3 x4 y = callEntry codes s cnt new z := by
  have ey : y = ix3 (y 0) (y 1) (y 2) := by funext a; fin_cases a <;> rfl
  have hy : (y 2).val < 256 := (y 2).isLt
  have ez : z = ix3 (y 0) (y 1) ⟨(16 * k + t) * 256 + (y 2).val, by omega⟩ := by
    funext a
    fin_cases a
    · exact Fin.ext z0
    · exact Fin.ext z1
    · exact Fin.ext z2
  rw [ey, ez]
  exact outBlk_eq codes s cnt new k t hk ht x1 x2 x3 x4 h1 h2 h3 h4 (y 0) (y 1) (y 2)

/-! ## Call 0 -/

/-- What grid step `t` of call 0 leaves in its block of the result. -/
theorem after0_4 (V : Valuation τ sig (Elt Ideal)) (c : Dev nD) (t : Fin cfg0.N) :
    (dat0 V c).after 4 t = outBlk (iblk0 V 0 t) (iblk0 V 1 t) (iblk0 V 2 t) (iblk0 V 3 t) := by dsimp only [dat0]

/-- The blocks that grid step `t` of call 0 takes: codes and scales number `t` of the chunk, counts number `16 * 0 + t` of all nodes. -/
theorem idx0 : ∀ t : Fin cfg0.N, win0_0.index t = ![t.val, 0] ∧ win0_1.index t = ![0, t.val] ∧ win0_2.index t = ![0, 16 * 0 + t.val]
    ∧ win0_3.index t = ![0, 16 * 0 + t.val] ∧ win0_4.index t = ![0, 0, 16 * 0 + t.val] :=
  (by decide +kernel : ∀ t : Fin grid0.N, _)

/-- What call 0 leaves: its own nodes' entries, the rest as it was. -/
theorem call0 (V : Valuation τ sig (Elt Ideal)) (c : Dev nD) (z : S60x60x16384.Idx) :
    afterRegion (dat0 V c) V (Proc.devRef .tc main_v2) z = if (z 2).val / 4096 = 0
      then callEntry (V (Proc.devRef .tc main_arg0)) (V (Proc.devRef .tc main_arg1)) (V (Proc.devRef .tc main_v0)) (V (Proc.devRef .tc main_v1)) z
      else V (Proc.devRef .tc main_v2) z := by
  refine (congrFun (Pipeline.afterRegion_arr (dat0 V c) V launch0.win.arr_inj 4) z).trans ?_
  refine ((dat0 V c).arrAt_eq_piecewise 4 (callEntry (V (Proc.devRef .tc main_arg0)) (V (Proc.devRef .tc main_arg1)) (V (Proc.devRef .tc main_v0)) (V (Proc.devRef .tc main_v1))) ?_ z).trans ?_
  · intro t _
    obtain ⟨e0, e1, e2, e3, e4⟩ := idx0 t
    funext y
    rw [Dat.flushed_apply, after0_4]
    blk_simp
    refine outBlk_at (V (Proc.devRef .tc main_arg0)) (V (Proc.devRef .tc main_arg1)) (V (Proc.devRef .tc main_v0)) (V (Proc.devRef .tc main_v1)) 0 t.val (by decide) t.isLt
      (iblk0 V 0 t) (iblk0 V 1 t) (iblk0 V 2 t) (iblk0 V 3 t)
      (fun r d => by blk_simp [iblk0]; blk_ext [e0]) (fun i l => by blk_simp [iblk0]; blk_ext [e1])
      (fun l => by blk_simp [iblk0]; blk_ext [e2]) (fun l => by blk_simp [iblk0]; blk_ext [e3]) _ _ ?_ ?_ ?_
    · blk_simp [e4]
    · blk_simp [e4]
    · blk_simp [e4]
  · have hm : (∃ t : Fin cfg0.N, (cfg0.win 4).flush t = true ∧ z ∈ ((cfg0.win 4).blk t).view.set) ↔ (z 2).val / 4096 = 0 := by
      have h0 : (z 0).val < 60 := (z 0).isLt
      have h1 : (z 1).val < 60 := (z 1).isLt
      have h2 : (z 2).val < 16384 := (z 2).isLt
      constructor
      · rintro ⟨t, -, h⟩
        obtain ⟨e0, e1, e2, e3, e4⟩ := idx0 t
        have ht : t.val < 16 := t.isLt
        mem_blk [e4] at h
        omega
      · intro h
        obtain ⟨t, ht⟩ : ∃ t : Fin cfg0.N, t.val = (z 2).val / 256 - 16 * 0 := ⟨⟨(z 2).val / 256 - 16 * 0, by show _ < 16; omega⟩, rfl⟩
        refine ⟨t, flush0_4 _, ?_⟩
        mem_blk [(idx0 t).2.2.2.2]
        omega
    exact if_congr hm rfl rfl

/-! ## Call 1 -/

/-- What grid step `t` of call 1 leaves in its block of the result. -/
theorem after1_4 (V : Valuation τ sig (Elt Ideal)) (c : Dev nD) (t : Fin cfg1.N) :
    (dat1 V c).after 4 t = outBlk (iblk1 V 0 t) (iblk1 V 1 t) (iblk1 V 2 t) (iblk1 V 3 t) := by dsimp only [dat1]

/-- The blocks that grid step `t` of call 1 takes: codes and scales number `t` of the chunk, counts number `16 * 1 + t` of all nodes. -/
theorem idx1 : ∀ t : Fin cfg1.N, win1_0.index t = ![t.val, 0] ∧ win1_1.index t = ![0, t.val] ∧ win1_2.index t = ![0, 16 * 1 + t.val]
    ∧ win1_3.index t = ![0, 16 * 1 + t.val] ∧ win1_4.index t = ![0, 0, 16 * 1 + t.val] :=
  (by decide +kernel : ∀ t : Fin grid1.N, _)

/-- What call 1 leaves: its own nodes' entries, the rest as it was. -/
theorem call1 (V : Valuation τ sig (Elt Ideal)) (c : Dev nD) (z : S60x60x16384.Idx) :
    afterRegion (dat1 V c) V (Proc.devRef .tc main_v3) z = if (z 2).val / 4096 = 1
      then callEntry (V (Proc.devRef .tc main_arg2)) (V (Proc.devRef .tc main_arg3)) (V (Proc.devRef .tc main_v0)) (V (Proc.devRef .tc main_v1)) z
      else V (Proc.devRef .tc main_v3) z := by
  refine (congrFun (Pipeline.afterRegion_arr (dat1 V c) V launch1.win.arr_inj 4) z).trans ?_
  refine ((dat1 V c).arrAt_eq_piecewise 4 (callEntry (V (Proc.devRef .tc main_arg2)) (V (Proc.devRef .tc main_arg3)) (V (Proc.devRef .tc main_v0)) (V (Proc.devRef .tc main_v1))) ?_ z).trans ?_
  · intro t _
    obtain ⟨e0, e1, e2, e3, e4⟩ := idx1 t
    funext y
    rw [Dat.flushed_apply, after1_4]
    blk_simp
    refine outBlk_at (V (Proc.devRef .tc main_arg2)) (V (Proc.devRef .tc main_arg3)) (V (Proc.devRef .tc main_v0)) (V (Proc.devRef .tc main_v1)) 1 t.val (by decide) t.isLt
      (iblk1 V 0 t) (iblk1 V 1 t) (iblk1 V 2 t) (iblk1 V 3 t)
      (fun r d => by blk_simp [iblk1]; blk_ext [e0]) (fun i l => by blk_simp [iblk1]; blk_ext [e1])
      (fun l => by blk_simp [iblk1]; blk_ext [e2]) (fun l => by blk_simp [iblk1]; blk_ext [e3]) _ _ ?_ ?_ ?_
    · blk_simp [e4]
    · blk_simp [e4]
    · blk_simp [e4]
  · have hm : (∃ t : Fin cfg1.N, (cfg1.win 4).flush t = true ∧ z ∈ ((cfg1.win 4).blk t).view.set) ↔ (z 2).val / 4096 = 1 := by
      have h0 : (z 0).val < 60 := (z 0).isLt
      have h1 : (z 1).val < 60 := (z 1).isLt
      have h2 : (z 2).val < 16384 := (z 2).isLt
      constructor
      · rintro ⟨t, -, h⟩
        obtain ⟨e0, e1, e2, e3, e4⟩ := idx1 t
        have ht : t.val < 16 := t.isLt
        mem_blk [e4] at h
        omega
      · intro h
        obtain ⟨t, ht⟩ : ∃ t : Fin cfg1.N, t.val = (z 2).val / 256 - 16 * 1 := ⟨⟨(z 2).val / 256 - 16 * 1, by show _ < 16; omega⟩, rfl⟩
        refine ⟨t, flush1_4 _, ?_⟩
        mem_blk [(idx1 t).2.2.2.2]
        omega
    exact if_congr hm rfl rfl

/-! ## Call 2 -/

/-- What grid step `t` of call 2 leaves in its block of the result. -/
theorem after2_4 (V : Valuation τ sig (Elt Ideal)) (c : Dev nD) (t : Fin cfg2.N) :
    (dat2 V c).after 4 t = outBlk (iblk2 V 0 t) (iblk2 V 1 t) (iblk2 V 2 t) (iblk2 V 3 t) := by dsimp only [dat2]

/-- The blocks that grid step `t` of call 2 takes: codes and scales number `t` of the chunk, counts number `16 * 2 + t` of all nodes. -/
theorem idx2 : ∀ t : Fin cfg2.N, win2_0.index t = ![t.val, 0] ∧ win2_1.index t = ![0, t.val] ∧ win2_2.index t = ![0, 16 * 2 + t.val]
    ∧ win2_3.index t = ![0, 16 * 2 + t.val] ∧ win2_4.index t = ![0, 0, 16 * 2 + t.val] :=
  (by decide +kernel : ∀ t : Fin grid2.N, _)

/-- What call 2 leaves: its own nodes' entries, the rest as it was. -/
theorem call2 (V : Valuation τ sig (Elt Ideal)) (c : Dev nD) (z : S60x60x16384.Idx) :
    afterRegion (dat2 V c) V (Proc.devRef .tc main_v4) z = if (z 2).val / 4096 = 2
      then callEntry (V (Proc.devRef .tc main_arg4)) (V (Proc.devRef .tc main_arg5)) (V (Proc.devRef .tc main_v0)) (V (Proc.devRef .tc main_v1)) z
      else V (Proc.devRef .tc main_v4) z := by
  refine (congrFun (Pipeline.afterRegion_arr (dat2 V c) V launch2.win.arr_inj 4) z).trans ?_
  refine ((dat2 V c).arrAt_eq_piecewise 4 (callEntry (V (Proc.devRef .tc main_arg4)) (V (Proc.devRef .tc main_arg5)) (V (Proc.devRef .tc main_v0)) (V (Proc.devRef .tc main_v1))) ?_ z).trans ?_
  · intro t _
    obtain ⟨e0, e1, e2, e3, e4⟩ := idx2 t
    funext y
    rw [Dat.flushed_apply, after2_4]
    blk_simp
    refine outBlk_at (V (Proc.devRef .tc main_arg4)) (V (Proc.devRef .tc main_arg5)) (V (Proc.devRef .tc main_v0)) (V (Proc.devRef .tc main_v1)) 2 t.val (by decide) t.isLt
      (iblk2 V 0 t) (iblk2 V 1 t) (iblk2 V 2 t) (iblk2 V 3 t)
      (fun r d => by blk_simp [iblk2]; blk_ext [e0]) (fun i l => by blk_simp [iblk2]; blk_ext [e1])
      (fun l => by blk_simp [iblk2]; blk_ext [e2]) (fun l => by blk_simp [iblk2]; blk_ext [e3]) _ _ ?_ ?_ ?_
    · blk_simp [e4]
    · blk_simp [e4]
    · blk_simp [e4]
  · have hm : (∃ t : Fin cfg2.N, (cfg2.win 4).flush t = true ∧ z ∈ ((cfg2.win 4).blk t).view.set) ↔ (z 2).val / 4096 = 2 := by
      have h0 : (z 0).val < 60 := (z 0).isLt
      have h1 : (z 1).val < 60 := (z 1).isLt
      have h2 : (z 2).val < 16384 := (z 2).isLt
      constructor
      · rintro ⟨t, -, h⟩
        obtain ⟨e0, e1, e2, e3, e4⟩ := idx2 t
        have ht : t.val < 16 := t.isLt
        mem_blk [e4] at h
        omega
      · intro h
        obtain ⟨t, ht⟩ : ∃ t : Fin cfg2.N, t.val = (z 2).val / 256 - 16 * 2 := ⟨⟨(z 2).val / 256 - 16 * 2, by show _ < 16; omega⟩, rfl⟩
        refine ⟨t, flush2_4 _, ?_⟩
        mem_blk [(idx2 t).2.2.2.2]
        omega
    exact if_congr hm rfl rfl

/-! ## Call 3 -/

/-- What grid step `t` of call 3 leaves in its block of the result. -/
theorem after3_4 (V : Valuation τ sig (Elt Ideal)) (c : Dev nD) (t : Fin cfg3.N) :
    (dat3 V c).after 4 t = outBlk (iblk3 V 0 t) (iblk3 V 1 t) (iblk3 V 2 t) (iblk3 V 3 t) := by dsimp only [dat3]

/-- The blocks that grid step `t` of call 3 takes: codes and scales number `t` of the chunk, counts number `16 * 3 + t` of all nodes. -/
theorem idx3 : ∀ t : Fin cfg3.N, win3_0.index t = ![t.val, 0] ∧ win3_1.index t = ![0, t.val] ∧ win3_2.index t = ![0, 16 * 3 + t.val]
    ∧ win3_3.index t = ![0, 16 * 3 + t.val] ∧ win3_4.index t = ![0, 0, 16 * 3 + t.val] :=
  (by decide +kernel : ∀ t : Fin grid3.N, _)

/-- What call 3 leaves: its own nodes' entries, the rest as it was. -/
theorem call3 (V : Valuation τ sig (Elt Ideal)) (c : Dev nD) (z : S60x60x16384.Idx) :
    afterRegion (dat3 V c) V (Proc.devRef .tc main_v5) z = if (z 2).val / 4096 = 3
      then callEntry (V (Proc.devRef .tc main_arg6)) (V (Proc.devRef .tc main_arg7)) (V (Proc.devRef .tc main_v0)) (V (Proc.devRef .tc main_v1)) z
      else V (Proc.devRef .tc main_v5) z := by
  refine (congrFun (Pipeline.afterRegion_arr (dat3 V c) V launch3.win.arr_inj 4) z).trans ?_
  refine ((dat3 V c).arrAt_eq_piecewise 4 (callEntry (V (Proc.devRef .tc main_arg6)) (V (Proc.devRef .tc main_arg7)) (V (Proc.devRef .tc main_v0)) (V (Proc.devRef .tc main_v1))) ?_ z).trans ?_
  · intro t _
    obtain ⟨e0, e1, e2, e3, e4⟩ := idx3 t
    funext y
    rw [Dat.flushed_apply, after3_4]
    blk_simp
    refine outBlk_at (V (Proc.devRef .tc main_arg6)) (V (Proc.devRef .tc main_arg7)) (V (Proc.devRef .tc main_v0)) (V (Proc.devRef .tc main_v1)) 3 t.val (by decide) t.isLt
      (iblk3 V 0 t) (iblk3 V 1 t) (iblk3 V 2 t) (iblk3 V 3 t)
      (fun r d => by blk_simp [iblk3]; blk_ext [e0]) (fun i l => by blk_simp [iblk3]; blk_ext [e1])
      (fun l => by blk_simp [iblk3]; blk_ext [e2]) (fun l => by blk_simp [iblk3]; blk_ext [e3]) _ _ ?_ ?_ ?_
    · blk_simp [e4]
    · blk_simp [e4]
    · blk_simp [e4]
  · have hm : (∃ t : Fin cfg3.N, (cfg3.win 4).flush t = true ∧ z ∈ ((cfg3.win 4).blk t).view.set) ↔ (z 2).val / 4096 = 3 := by
      have h0 : (z 0).val < 60 := (z 0).isLt
      have h1 : (z 1).val < 60 := (z 1).isLt
      have h2 : (z 2).val < 16384 := (z 2).isLt
      constructor
      · rintro ⟨t, -, h⟩
        obtain ⟨e0, e1, e2, e3, e4⟩ := idx3 t
        have ht : t.val < 16 := t.isLt
        mem_blk [e4] at h
        omega
      · intro h
        obtain ⟨t, ht⟩ : ∃ t : Fin cfg3.N, t.val = (z 2).val / 256 - 16 * 3 := ⟨⟨(z 2).val / 256 - 16 * 3, by show _ < 16; omega⟩, rfl⟩
        refine ⟨t, flush3_4 _, ?_⟩
        mem_blk [(idx3 t).2.2.2.2]
        omega
    exact if_congr hm rfl rfl

end Cert.KernelIdeal.Dist

end
-- ==== Proof.Value.lean ====
module

public import proofs.«01_k».proof.Proof.Calls
public import Idealize.ShloMosaic.Lib.StableHlo.RunHlo
public import Idealize.ShloMosaic.Lib.Pointwise

@[expose] public section

set_option maxHeartbeats 1000000

noncomputable section

namespace Cert.KernelIdeal.Dist

open Idealize.ShloMosaic Idealize.ShloMosaic.TcCoe
open Idealize.ShloMosaic.Pipeline (Dat afterRegion)
open Cert.KernelIdeal Cert.KernelIdeal.Gen

variable (m : (ℓ : Loc nD τ sig) → Buf (Elt Ideal) ℓ) (c : Dev nD)

/-! ## What the host operations between the calls write -/

theorem row_apply (x : Vec Ideal S16384 .i32) (n : Fin 16384) : shapeCast S1x16384 x shapeCasts_S16384_S1x16384 (ix2 0 n) = x (ix1 n) := by pointwise
theorem last_first_apply (x : Vec Ideal S60x60x16384 .f32) (n : Fin 16384) (i j : Fin 60) :
    transpose S16384x60x60 [2, 0, 1] x transposes_S60x60x16384_S16384x60x60_2_0_1 (ix3 n i j) = x (ix3 i j n) := by pointwise

/-- The filled counts as a row. -/
theorem W1_v0 (n : Fin 16384) : W1 m c (Proc.devRef .tc main_v0) (ix2 0 n) = m (c, Proc.devRef .tc main_arg8) (ix1 n) := by
  have e : W1 m c (Proc.devRef .tc main_v0) = shapeCast S1x16384 (m (c, Proc.devRef .tc main_arg8)) shapeCasts_S16384_S1x16384 := by
    unfold W1; after_results; rfl
  rw [e]; exact row_apply _ n

/-- The new counts as a row. -/
theorem W1_v1 (n : Fin 16384) : W1 m c (Proc.devRef .tc main_v1) (ix2 0 n) = m (c, Proc.devRef .tc main_arg9) (ix1 n) := by
  have e : W1 m c (Proc.devRef .tc main_v1) = shapeCast S1x16384 (m (c, Proc.devRef .tc main_arg9)) shapeCasts_S16384_S1x16384 := by
    unfold W1; after_results; rfl
  rw [e]; exact row_apply _ n

theorem W3_v3 : W3 m c (Proc.devRef .tc main_v3) = W2 m c (Proc.devRef .tc main_v2) := by
  unfold W3; after_results; rfl
theorem W5_v4 : W5 m c (Proc.devRef .tc main_v4) = W4 m c (Proc.devRef .tc main_v3) := by
  unfold W5; after_results; rfl
theorem W7_v5 : W7 m c (Proc.devRef .tc main_v5) = W6 m c (Proc.devRef .tc main_v4) := by
  unfold W7; after_results; rfl
/-- The last host operation moves the node axis to the front. -/
theorem W9_v6 (n : Fin 16384) (i j : Fin 60) : W9 m c (Proc.devRef .tc main_v6) (ix3 n i j) = W8 m c (Proc.devRef .tc main_v5) (ix3 i j n) := by
  have e : W9 m c (Proc.devRef .tc main_v6) = transpose S16384x60x60 [2, 0, 1] (W8 m c (Proc.devRef .tc main_v5)) transposes_S60x60x16384_S16384x60x60_2_0_1 := by
    unfold W9; after_results; try rfl
  rw [e]; exact last_first_apply _ n i j

/-- An array that no call writes is at every call what it is at the first. -/
theorem W_kept (r : Ref sig .tc) (h : ∀ x ∈ [main_v2, main_v3, main_v4, main_v5], r ≠ x) :
    W3 m c (Proc.devRef .tc r) = W1 m c (Proc.devRef .tc r) ∧ W5 m c (Proc.devRef .tc r) = W1 m c (Proc.devRef .tc r)
      ∧ W7 m c (Proc.devRef .tc r) = W1 m c (Proc.devRef .tc r) := by
  have h3 : W3 m c (Proc.devRef .tc r) = W1 m c (Proc.devRef .tc r) := by rw [W3_of _ _ _ (h main_v3 (by decide)), W2_of _ _ _ (h main_v2 (by decide))]
  have h5 : W5 m c (Proc.devRef .tc r) = W1 m c (Proc.devRef .tc r) := by rw [W5_of _ _ _ (h main_v4 (by decide)), W4_of _ _ _ (h main_v3 (by decide)), h3]
  exact ⟨h3, h5, by rw [W7_of _ _ _ (h main_v5 (by decide)), W6_of _ _ _ (h main_v4 (by decide)), h5]⟩

/-- An argument holds at every call what it held at the start. -/
theorem arg_at (r : Ref sig .tc) (h : r ∉ written) :
    W1 m c (Proc.devRef .tc r) = m (c, Proc.devRef .tc r) ∧ W3 m c (Proc.devRef .tc r) = m (c, Proc.devRef .tc r)
      ∧ W5 m c (Proc.devRef .tc r) = m (c, Proc.devRef .tc r) ∧ W7 m c (Proc.devRef .tc r) = m (c, Proc.devRef .tc r) := by
  have e := W1_of m c r h
  obtain ⟨h3, h5, h7⟩ := W_kept m c r fun x hx e => h (by subst e; simp only [List.mem_cons] at hx ⊢; tauto)
  exact ⟨e, h3.trans e, h5.trans e, h7.trans e⟩

/-- The four arguments that hold codes, and the four that hold scales, by part. -/
def codesOf (k : ℕ) : Vec Ideal S65536x128 .i32 :=
  if k = 3 then m (c, Proc.devRef .tc main_arg6) else if k = 2 then m (c, Proc.devRef .tc main_arg4)
  else if k = 1 then m (c, Proc.devRef .tc main_arg2) else m (c, Proc.devRef .tc main_arg0)
/-- The scales of chunk `k`. -/
def scalesOf (k : ℕ) : Vec Ideal S60x4096 .f32 :=
  if k = 3 then m (c, Proc.devRef .tc main_arg7) else if k = 2 then m (c, Proc.devRef .tc main_arg5)
  else if k = 1 then m (c, Proc.devRef .tc main_arg3) else m (c, Proc.devRef .tc main_arg1)

/-- The program's result at an entry: node `n` is node `n % 4096` of part `n / 4096`. -/
theorem result_entry (n : Fin 16384) (i j : Fin 60) : W9 m c (Proc.devRef .tc main_v6) (ix3 n i j)
    = Cert.Dist.entry (fun q d => codesOf m c (n.val / 4096) (ix2 ⟨16 * (n.val % 4096) + q.val, by omega⟩ d))
        (fun i => scalesOf m c (n.val / 4096) (ix2 i ⟨n.val % 4096, by omega⟩))
        (m (c, Proc.devRef .tc main_arg8) (ix1 n)) (m (c, Proc.devRef .tc main_arg9) (ix1 n)) i j := by
  have step (codes : Vec Ideal S65536x128 .i32) (s : Vec Ideal S60x4096 .f32) :
      callEntry codes s (W1 m c (Proc.devRef .tc main_v0)) (W1 m c (Proc.devRef .tc main_v1)) (ix3 i j n)
        = Cert.Dist.entry (fun q d => codes (ix2 ⟨16 * (n.val % 4096) + q.val, by omega⟩ d)) (fun i => s (ix2 i ⟨n.val % 4096, by omega⟩))
          (m (c, Proc.devRef .tc main_arg8) (ix1 n)) (m (c, Proc.devRef .tc main_arg9) (ix1 n)) i j := by
    rw [← W1_v0 m c n, ← W1_v1 m c n]; rfl
  have c0 : W2 m c (Proc.devRef .tc main_v2) (ix3 i j n) = _ := call0 (W1 m c) c (ix3 i j n)
  have c1 : W4 m c (Proc.devRef .tc main_v3) (ix3 i j n) = _ := call1 (W3 m c) c (ix3 i j n)
  have c2 : W6 m c (Proc.devRef .tc main_v4) (ix3 i j n) = _ := call2 (W5 m c) c (ix3 i j n)
  have c3 : W8 m c (Proc.devRef .tc main_v5) (ix3 i j n) = _ := call3 (W7 m c) c (ix3 i j n)
  have hn : ((ix3 i j n : S60x60x16384.Idx) 2).val = n.val := rfl
  rw [hn, arg_at m c main_arg0 (by decide) |>.1, arg_at m c main_arg1 (by decide) |>.1, step] at c0
  rw [hn, arg_at m c main_arg2 (by decide) |>.2.1, arg_at m c main_arg3 (by decide) |>.2.1, (W_kept m c main_v0 (by decide)).1, (W_kept m c main_v1 (by decide)).1, step] at c1
  rw [hn, arg_at m c main_arg4 (by decide) |>.2.2.1, arg_at m c main_arg5 (by decide) |>.2.2.1, (W_kept m c main_v0 (by decide)).2.1, (W_kept m c main_v1 (by decide)).2.1, step] at c2
  rw [hn, arg_at m c main_arg6 (by decide) |>.2.2.2, arg_at m c main_arg7 (by decide) |>.2.2.2, (W_kept m c main_v0 (by decide)).2.2, (W_kept m c main_v1 (by decide)).2.2, step] at c3
  rw [W9_v6, c3, W7_v5, c2, W5_v4, c1, W3_v3, c0]
  unfold codesOf scalesOf
  have h : n.val / 4096 = 0 ∨ n.val / 4096 = 1 ∨ n.val / 4096 = 2 ∨ n.val / 4096 = 3 := by omega
  rcases h with h | h | h | h <;> simp only [h] <;> rfl

end Cert.KernelIdeal.Dist

end
-- ==== Proof.RefRun.lean ====
module

public import proofs.«01_k».proof.Defs
public import proofs.«01_k».proof.Proof.Gen.ReferenceIdeal
public import proofs.«01_k».proof.Proof.Spec
public import Idealize.ShloMosaic.Lib.Claim
public import Idealize.ShloMosaic.Lib.BitcastConvert

@[expose] public section

set_option maxHeartbeats 1000000

noncomputable section

namespace Cert.ReferenceIdeal.Dist

open Idealize.ShloMosaic Idealize.ShloMosaic.TcCoe Idealize.SL.Sem
open Cert.ReferenceIdeal Cert.ReferenceIdeal.Gen

/-! ## The reference's result, in the steps it is written in -/

section
variable {F : FTy → Type} [FloatOps F]
variable (x0 x1 x2 x3 : Vec F S65536x128 .i32) (y0 y1 y2 y3 : Vec F S60x4096 .f32) (cnt new : Vec F S16384 .i32)

/-- The four parts' words, one after another. -/
def words : Vec F S262144x128 .i32 :=
  concatenate S262144x128 0 [⟨S65536x128, x0⟩, ⟨S65536x128, x1⟩, ⟨S65536x128, x2⟩, ⟨S65536x128, x3⟩]
    concatenates_S65536x128_S65536x128_S65536x128_S65536x128_S262144x128_d0

/-- The words cut in bytes: node, slot, coordinate. -/
def bytes (w : Vec F S262144x128 .i32) : IVec S16384x60x128 8 :=
  extractStridedSlice S16384x60x128 ![0, 0, 0] (shapeCast S16384x64x128 (transpose S16384x16x4x128 [0, 1, 3, 2]
    (Host.bitcastConvertNarrow S16384x16x128x4 8 (shapeCast S16384x16x128 w shapeCasts_S262144x128_S16384x16x128)
      splits_S16384x16x128_w32_S16384x16x128x4_w8) transposes_S16384x16x128x4_S16384x16x4x128_0_1_3_2)
    shapeCasts_S16384x16x4x128_S16384x64x128) slices_S16384x64x128_S16384x60x128_0_0_0

/-- The four parts' scales side by side, node by slot. -/
def scales : FVec F S16384x60 .f32 :=
  transpose S16384x60 [1, 0] (concatenate S60x16384 1 [⟨S60x4096, y0⟩, ⟨S60x4096, y1⟩, ⟨S60x4096, y2⟩, ⟨S60x4096, y3⟩]
    concatenates_S60x4096_S60x4096_S60x4096_S60x4096_S60x16384_d1) transposes_S60x16384_S16384x60_1_0

/-- The codes as floats. -/
def floats (b : IVec S16384x60x128 8) : FVec F S16384x60x128 .f32 := sitofp .f32 (extsi 32 b natLt_8_32)

/-- The squared norms. -/
def squares (c : FVec F S16384x60x128 .f32) : FVec F S16384x60 .f32 :=
  Host.reduceAdd (mulf c c) (constant S_ .f32 0x00000000#32) reducesTo_S16384x60x128_S16384x60_d2 h_S_

/-- The products of the slots. -/
def products (c : FVec F S16384x60x128 .f32) : FVec F S16384x60x60 .f32 :=
  Host.dotGeneral dot_S16384x60x128_S16384x60x128_S16384x60x60_2_2_1_1_0_0 none (truncf .bf16 c bitsLt_bf16_f32) (truncf .bf16 c bitsLt_bf16_f32)

/-- A table's row entry at every pair. -/
def rowWise {e : EltTy} (v : Vec F S16384x60 e) : Vec F S16384x60x60 e :=
  broadcastInDim S16384x60x60 ![0, 1, 2] bcast_S16384x60x1_S16384x60x60_0_1_2 (broadcastInDim S16384x60x1 ![0, 1] bcast_S16384x60_S16384x60x1_0_1 v)
/-- A table's column entry at every pair. -/
def colWise {e : EltTy} (v : Vec F S16384x60 e) : Vec F S16384x60x60 e :=
  broadcastInDim S16384x60x60 ![0, 1, 2] bcast_S16384x1x60_S16384x60x60_0_1_2 (broadcastInDim S16384x1x60 ![0, 2] bcast_S16384x60_S16384x1x60_0_2 v)

/-- The distances of all pairs. -/
def distances (s n : FVec F S16384x60 .f32) (g : FVec F S16384x60x60 .f32) : FVec F S16384x60x60 .f32 :=
  subf (addf (rowWise (e := .f32) (mulf (mulf s s) n)) (colWise (e := .f32) (mulf (mulf s s) n)))
    (mulf (mulf (rowWise (e := .f32) (mulf (broadcastInDim S16384x60 ![] bcast_S_S16384x60 (constant S_ .f32 0x40000000#32)) s)) (colWise (e := .f32) s)) g)

/-- Which slots lie below a node's number. -/
def below (v : Vec F S16384 .i32) : IVec S16384x60 1 :=
  cmpi .slt (broadcastInDim S16384x60 ![0, 1] bcast_S1x60_S16384x60_0_1 (broadcastInDim S1x60 ![1] bcast_S60_S1x60_1 (iotaInDim S60 32 0)))
    (broadcastInDim S16384x60 ![0, 1] bcast_S16384x1_S16384x60_0_1 (broadcastInDim S16384x1 ![0] bcast_S16384_S16384x1_0 v))

/-- The pairs kept. -/
def keep (cnt new : Vec F S16384 .i32) : IVec S16384x60x60 1 :=
  andi (andi (rowWise (F := F) (e := .i1) (below cnt)) (colWise (F := F) (e := .i1) (below cnt)))
    (ori (rowWise (F := F) (e := .i1) (below new)) (colWise (F := F) (e := .i1) (below new)))

/-- The reference's result. -/
def result : FVec F S16384x60x60 .f32 :=
  select (keep cnt new)
    (distances (scales y0 y1 y2 y3) (squares (floats (bytes (words x0 x1 x2 x3)))) (products (floats (bytes (words x0 x1 x2 x3)))))
    (broadcastInDim S16384x60x60 ![] bcast_S_S16384x60x60 (constant S_ .f32 0xBF800000#32))

end

/-- The reference's run ends with `result` of its arguments, which are as they began. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v52)
        = result (F := Ideal) (m ((c.tc : Thread nD τ).loc main_arg0)) (m ((c.tc : Thread nD τ).loc main_arg2)) (m ((c.tc : Thread nD τ).loc main_arg4)) (m ((c.tc : Thread nD τ).loc main_arg6))
            (m ((c.tc : Thread nD τ).loc main_arg1)) (m ((c.tc : Thread nD τ).loc main_arg3)) (m ((c.tc : Thread nD τ).loc main_arg5)) (m ((c.tc : Thread nD τ).loc main_arg7))
            (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  hlo_run
  simp only [StableHlo.TRef.toBuf, StableHlo.TRef.ofBuf, cast_cast, cast_eq]
  unfold result
  refine congr (congr (congrArg select ?_) ?_) rfl
  · rfl
  · unfold distances
    refine congr (congrArg _ ?_) ?_
    · rfl
    · refine congr (congrArg _ ?_) ?_
      · rfl
      · rfl

/-- The reference runs, its arguments as they began and every counter at zero. -/
theorem frame : @Cert.quiescent_ReferenceIdeal Cert.ReferenceIdeal.Gen.facts := by
  intro m g _
  exact θ_run_mono (run m g) fun r h => ⟨fun c => (h c).2, sem_eq_zero_of_no_sems (by decide) r.2⟩

/-! ## The result at an entry -/

section
variable (w : Vec Ideal S262144x128 .i32) (n : Fin 16384) (i j : Fin 60) (d : Fin 128)

/-- The packed words of node `n`. -/
def nodeWords (q : Fin 16) (d : Fin 128) : BitVec 32 := w (ix2 ⟨16 * n.val + q.val, by omega⟩ d)

/-- The codes as floats: entry `(n, i, d)` is the code of candidate `i` of node `n` at coordinate `d`. -/
theorem floats_apply : floats (F := Ideal) (bytes w) (ix3 n i d) = Cert.Dist.code (nodeWords w n) i d := by
  pointwise [floats, bytes, Cert.Dist.code, Cert.Dist.codeOf, Cert.Dist.byteOf, nodeWords]
  refine Eq.trans (b := (((BitVec.signExtend 32 (BitVec.extractLsb' (i.val % 4 * 8) 8 (w (ix2 ⟨n.val * 16 + i.val / 4, by omega⟩ d)))).toInt : ℝ) : EReal)) rfl ?_
  rw [BitVec.toInt_signExtend_of_le (by decide)]
  simp only [Nat.mul_comm]

/-- The norms: the sum of the squares over the coordinates. -/
theorem squares_apply (c : FVec Ideal S16384x60x128 .f32) : squares c (ix2 n i) = ∑ d : Fin 128, c (ix3 n i d) * c (ix3 n i d) := by
  pointwise [squares]

/-- The products: the sum over the coordinates. -/
theorem products_apply (c : FVec Ideal S16384x60x128 .f32) : products c (ix3 n i j) = ∑ d : Fin 128, c (ix3 n i d) * c (ix3 n j d) := by
  pointwise [products]

theorem rowWise_apply {e : EltTy} (v : Vec Ideal S16384x60 e) : rowWise v (ix3 n i j) = v (ix2 n i) := by
  pointwise [rowWise]
theorem colWise_apply {e : EltTy} (v : Vec Ideal S16384x60 e) : colWise v (ix3 n i j) = v (ix2 n j) := by
  pointwise [colWise]
theorem below_apply (v : Vec Ideal S16384 .i32) : below v (ix2 n i) = IntOp.cmpi .slt (BitVec.ofNat 32 i.val) (v (ix1 n)) := by
  pointwise [below]

/-- The mask keeps exactly the pairs that are `kept`. -/
theorem keep_apply (cnt new : Vec Ideal S16384 .i32) : keep (F := Ideal) cnt new (ix3 n i j) = 1#1 ↔ Cert.Dist.kept (cnt (ix1 n)) (new (ix1 n)) i.val j.val := by
  pointwise [keep, rowWise_apply, colWise_apply, below_apply]
  exact Cert.Dist.kept_iff_pair _ _ _ _

/-- Each entry of the reference's result is `entry` at the node's codes, scales and counts. -/
theorem result_apply (x0 x1 x2 x3 : Vec Ideal S65536x128 .i32) (y0 y1 y2 y3 : Vec Ideal S60x4096 .f32) (cnt new : Vec Ideal S16384 .i32) :
    result x0 x1 x2 x3 y0 y1 y2 y3 cnt new (ix3 n i j)
      = Cert.Dist.entry (nodeWords (words x0 x1 x2 x3) n) (fun i => scales y0 y1 y2 y3 (ix2 n i)) (cnt (ix1 n)) (new (ix1 n)) i j := by
  pointwise [result, distances, rowWise_apply, colWise_apply, squares_apply, products_apply, floats_apply]
  unfold Cert.Dist.entry Scalar.select
  have hk := keep_apply n i j cnt new
  by_cases h : Cert.Dist.kept (cnt (ix1 n)) (new (ix1 n)) i.val j.val
  · rw [if_pos h]
    exact if_pos (hk.2 h)
  · rw [if_neg h]
    exact if_neg fun h' => h (hk.1 h')

end

end Cert.ReferenceIdeal.Dist
-- ==== Proof.Equal.lean ====
module

public import proofs.«01_k».proof.Proof.Value
public import proofs.«01_k».proof.Proof.RefRun

@[expose] public section

set_option maxHeartbeats 1000000

noncomputable section

namespace Cert.ReferenceIdeal.Dist

open Idealize.ShloMosaic Idealize.ShloMosaic.TcCoe
open Cert.ReferenceIdeal Cert.ReferenceIdeal.Gen

section
variable (x0 x1 x2 x3 : Vec Ideal S65536x128 .i32) (y0 y1 y2 y3 : Vec Ideal S60x4096 .f32) (n : Fin 16384)

/-- Node `n`'s words are those of node `n % 4096` of part `n / 4096`. -/
theorem nodeWords_part (q : Fin 16) (d : Fin 128) : nodeWords (words x0 x1 x2 x3) n q d
    = (if n.val / 4096 = 3 then x3 else if n.val / 4096 = 2 then x2 else if n.val / 4096 = 1 then x1 else x0) (ix2 ⟨16 * (n.val % 4096) + q.val, by omega⟩ d) := by
  pointwise [nodeWords, words]
  have h : n.val / 4096 = 0 ∨ n.val / 4096 = 1 ∨ n.val / 4096 = 2 ∨ n.val / 4096 = 3 := by omega
  rcases h with h | h | h | h <;> rw [h]
  · exact (dif_pos (by omega)).trans (congrArg x0 (congrArg (fun r => ix2 r d) (Fin.ext (by dsimp only; omega))))
  · exact (dif_neg (by omega)).trans ((dif_pos (by omega)).trans (congrArg x1 (congrArg (fun r => ix2 r d) (Fin.ext (by dsimp only; omega)))))
  · exact (dif_neg (by omega)).trans ((dif_neg (by omega)).trans ((dif_pos (by omega)).trans (congrArg x2 (congrArg (fun r => ix2 r d) (Fin.ext (by dsimp only; omega))))))
  · exact (dif_neg (by omega)).trans ((dif_neg (by omega)).trans ((dif_neg (by omega)).trans (congrArg x3 (congrArg (fun r => ix2 r d) (Fin.ext (by dsimp only; omega))))))

/-- Node `n`'s scales likewise. -/
theorem scales_part (i : Fin 60) : scales y0 y1 y2 y3 (ix2 n i)
    = (if n.val / 4096 = 3 then y3 else if n.val / 4096 = 2 then y2 else if n.val / 4096 = 1 then y1 else y0) (ix2 i ⟨n.val % 4096, by omega⟩) := by
  pointwise [scales]
  have h : n.val / 4096 = 0 ∨ n.val / 4096 = 1 ∨ n.val / 4096 = 2 ∨ n.val / 4096 = 3 := by omega
  rcases h with h | h | h | h <;> rw [h]
  · exact (dif_pos (by omega)).trans (congrArg y0 (congrArg (fun r => ix2 i r) (Fin.ext (by dsimp only; omega))))
  · exact (dif_neg (by omega)).trans ((dif_pos (by omega)).trans (congrArg y1 (congrArg (fun r => ix2 i r) (Fin.ext (by dsimp only; omega)))))
  · exact (dif_neg (by omega)).trans ((dif_neg (by omega)).trans ((dif_pos (by omega)).trans (congrArg y2 (congrArg (fun r => ix2 i r) (Fin.ext (by dsimp only; omega))))))
  · exact (dif_neg (by omega)).trans ((dif_neg (by omega)).trans ((dif_neg (by omega)).trans (congrArg y3 (congrArg (fun r => ix2 i r) (Fin.ext (by dsimp only; omega))))))

end

end Cert.ReferenceIdeal.Dist

namespace Cert.Dist

open Idealize.ShloMosaic Idealize.ShloMosaic.TcCoe Idealize.SL.Sem

/-- The program's result array and the reference's are the same, of the same arguments. -/
theorem results_eq (m : (ℓ : Loc KernelIdeal.nD KernelIdeal.τ KernelIdeal.sig) → Buf (Elt Ideal) ℓ) (c : Dev KernelIdeal.nD) :
    KernelIdeal.Dist.W9 m c (Proc.devRef .tc KernelIdeal.main_v6)
      = ReferenceIdeal.Dist.result (F := Ideal) (m ((c.tc : Thread KernelIdeal.nD KernelIdeal.τ).loc KernelIdeal.main_arg0)) (m ((c.tc : Thread KernelIdeal.nD KernelIdeal.τ).loc KernelIdeal.main_arg2))
          (m ((c.tc : Thread KernelIdeal.nD KernelIdeal.τ).loc KernelIdeal.main_arg4)) (m ((c.tc : Thread KernelIdeal.nD KernelIdeal.τ).loc KernelIdeal.main_arg6))
          (m ((c.tc : Thread KernelIdeal.nD KernelIdeal.τ).loc KernelIdeal.main_arg1)) (m ((c.tc : Thread KernelIdeal.nD KernelIdeal.τ).loc KernelIdeal.main_arg3))
          (m ((c.tc : Thread KernelIdeal.nD KernelIdeal.τ).loc KernelIdeal.main_arg5)) (m ((c.tc : Thread KernelIdeal.nD KernelIdeal.τ).loc KernelIdeal.main_arg7))
          (m ((c.tc : Thread KernelIdeal.nD KernelIdeal.τ).loc KernelIdeal.main_arg8)) (m ((c.tc : Thread KernelIdeal.nD KernelIdeal.τ).loc KernelIdeal.main_arg9)) := by
  funext z
  have ez : z = ix3 (z 0 : Fin 16384) (z 1 : Fin 60) (z 2 : Fin 60) := by funext a; fin_cases a <;> rfl
  rw [ez]
  refine (KernelIdeal.Dist.result_entry m c (z 0) (z 1) (z 2)).trans (Eq.trans ?_ (ReferenceIdeal.Dist.result_apply (z 0) (z 1) (z 2) _ _ _ _ _ _ _ _ _ _).symm)
  refine congr (congr (congr (congr (congr (congrArg entry ?_) ?_) rfl) rfl) rfl) rfl
  · funext q d
    exact (ReferenceIdeal.Dist.nodeWords_part _ _ _ _ (z 0) q d).symm
  · funext i
    exact (ReferenceIdeal.Dist.scales_part _ _ _ _ (z 0) i).symm

/-- Over the extended reals the program and the reference end with the same result. -/
theorem algebraic : @Cert.algebraic_KernelIdeal_ReferenceIdeal KernelIdeal.Gen.facts ReferenceIdeal.Gen.facts := by
  intro m g m' g' _ hargs
  refine ⟨fun c => KernelIdeal.Dist.W9 m c (Proc.devRef .tc KernelIdeal.main_v6), ?_, ?_⟩
  · exact θ_run_mono (KernelIdeal.Dist.run_main m g) fun r h c =>
      ⟨KernelIdeal.Dist.at_end m h.1 c KernelIdeal.main_v6 (by decide), KernelIdeal.Dist.args_end m h.1 c⟩
  · refine θ_run_mono (ReferenceIdeal.Dist.run m' g') fun r h c => ⟨(h c).1.trans ?_, (h c).2⟩
    obtain ⟨a0, a1, a2, a3, a4, a5, a6, a7, a8, a9⟩ := hargs c
    rw [a0, a1, a2, a3, a4, a5, a6, a7, a8, a9]
    exact (results_eq m c).symm

end Cert.Dist

end
-- ==== Proof.lean ====
module

public import proofs.«01_k».proof.Defs
public import proofs.«01_k».proof.Proof.Transport
public import proofs.«01_k».proof.Proof.Equal

@[expose] public section

noncomputable section

namespace Cert.Proof

open Idealize.ShloMosaic Idealize.SL.Sem

/-- All five claims. -/
theorem claim : Cert.Claim := ⟨Cert.Kernel.Gen.facts, Cert.KernelIdeal.Gen.facts, Cert.ReferenceIdeal.Gen.facts,
  Cert.Kernel.Dist.frame, fun m g _ => Cert.KernelIdeal.Dist.run_frame m g, Cert.ReferenceIdeal.Dist.frame, trivial, Cert.Dist.algebraic⟩

end Cert.Proof

end
